-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 512, 2048]⟩ ⟨3, ![4, 512, 2048]⟩ (Layout.meshBlock [2, 2, 4] ![[2], [], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = Layout.blockN ⟨2, ![512, 512]⟩ ⟨2, ![512, 2048]⟩ (Layout.meshBlock [2, 2, 4] ![[], [2]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x512x2048 : Shape := ⟨3, ![1, 512, 2048]⟩
abbrev S_ : Shape := ⟨0, ![]⟩
abbrev S1x512x128 : Shape := ⟨3, ![1, 512, 128]⟩
abbrev S512x128 : Shape := ⟨2, ![512, 128]⟩
abbrev S4x512x128 : Shape := ⟨3, ![4, 512, 128]⟩
abbrev S512x512 : Shape := ⟨2, ![512, 512]⟩
abbrev S3x512x128 : Shape := ⟨3, ![3, 512, 128]⟩
abbrev S4x3 : Shape := ⟨2, ![4, 3]⟩
abbrev S1x1 : Shape := ⟨2, ![1, 1]⟩
abbrev S1x128x128 : Shape := ⟨3, ![1, 128, 128]⟩
abbrev S128x128 : Shape := ⟨2, ![128, 128]⟩

abbrev nBuf : Space → Nat
  | .hbm => 74
  | .vmem => 6
  | .smem => 0
  | _ => 0

abbrev bufTy : (tb : Table) → Fin (tcTables nBuf tb) → BufTy
  | .hbm, ⟨0, _⟩ => ⟨S1x512x2048, .bf16⟩
  | .hbm, ⟨1, _⟩ => ⟨S_, .i32⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i1⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S1x512x128, .bf16⟩
  | .hbm, ⟨28, _⟩ => ⟨S512x128, .bf16⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S_, .i1⟩
  | .hbm, ⟨35, _⟩ => ⟨S_, .i32⟩
  | .hbm, ⟨36, _⟩ => ⟨S_, .i32⟩
  | .hbm, ⟨37, _⟩ => ⟨S_, .i32⟩
  | .hbm, ⟨38, _⟩ => ⟨S_, .i32⟩
  | .hbm, ⟨39, _⟩ => ⟨S_, .i32⟩
  | .hbm, ⟨40, _⟩ => ⟨S1x512x128, .bf16⟩
  | .hbm, ⟨41, _⟩ => ⟨S512x128, .bf16⟩
  | .hbm, ⟨42, _⟩ => ⟨S_, .i32⟩
  | .hbm, ⟨43, _⟩ => ⟨S_, .i32⟩
  | .hbm, ⟨44, _⟩ => ⟨S_, .i32⟩
  | .hbm, ⟨45, _⟩ => ⟨S_, .i32⟩
  | .hbm, ⟨46, _⟩ => ⟨S_, .i32⟩
  | .hbm, ⟨47, _⟩ => ⟨S_, .i1⟩
  | .hbm, ⟨48, _⟩ => ⟨S_, .i32⟩
  | .hbm, ⟨49, _⟩ => ⟨S_, .i32⟩
  | .hbm, ⟨50, _⟩ => ⟨S_, .i32⟩
  | .hbm, ⟨51, _⟩ => ⟨S_, .i32⟩
  | .hbm, ⟨52, _⟩ => ⟨S_, .i32⟩
  | .hbm, ⟨53, _⟩ => ⟨S1x512x128, .bf16⟩
  | .hbm, ⟨54, _⟩ => ⟨S512x128, .bf16⟩
  | .hbm, ⟨55, _⟩ => ⟨S_, .i32⟩
  | .hbm, ⟨56, _⟩ => ⟨S_, .i32⟩
  | .hbm, ⟨57, _⟩ => ⟨S_, .i32⟩
  | .hbm, ⟨58, _⟩ => ⟨S_, .i32⟩
  | .hbm, ⟨59, _⟩ => ⟨S_, .i32⟩
  | .hbm, ⟨60, _⟩ => ⟨S_, .i1⟩
  | .hbm, ⟨61, _⟩ => ⟨S_, .i32⟩
  | .hbm, ⟨62, _⟩ => ⟨S_, .i32⟩
  | .hbm, ⟨63, _⟩ => ⟨S_, .i32⟩
  | .hbm, ⟨64, _⟩ => ⟨S_, .i32⟩
  | .hbm, ⟨65, _⟩ => ⟨S_, .i32⟩
  | .hbm, ⟨66, _⟩ => ⟨S1x512x128, .bf16⟩
  | .hbm, ⟨67, _⟩ => ⟨S512x128, .bf16⟩
  | .hbm, ⟨68, _⟩ => ⟨S1x512x128, .bf16⟩
  | .hbm, ⟨69, _⟩ => ⟨S1x512x128, .bf16⟩
  | .hbm, ⟨70, _⟩ => ⟨S1x512x128, .bf16⟩
  | .hbm, ⟨71, _⟩ => ⟨S1x512x128, .bf16⟩
  | .hbm, ⟨72, _⟩ => ⟨S4x512x128, .bf16⟩
  | .hbm, ⟨73, _⟩ => ⟨S512x512, .f32⟩
  | .local _ .vmem, ⟨0, _⟩ => ⟨S4x512x128, .bf16⟩
  | .local _ .vmem, ⟨1, _⟩ => ⟨S512x512, .f32⟩
  | .local _ .vmem, ⟨2, _⟩ => ⟨S3x512x128, .bf16⟩
  | .local _ .vmem, ⟨3, _⟩ => ⟨S3x512x128, .bf16⟩
  | .local _ .vmem, ⟨4, _⟩ => ⟨S512x128, .bf16⟩
  | .local _ .vmem, ⟨5, _⟩ => ⟨S3x512x128, .bf16⟩
  | _, _ => ⟨S1x512x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  (ofTc nBuf bufTy 1 50 bufScoped semScoped dmaSemScoped tileCredit tileCredit_eq_zero tileCredit_pos).withBarriers [(0, 0)]

abbrev main_arg0 : Ref sig .tc := ⟨.hbm, 0, rfl⟩
abbrev main_c : Ref sig .tc := ⟨.hbm, 1, rfl⟩
abbrev main_c_0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c_1 : Ref sig .tc := ⟨.hbm, 7, rfl⟩
abbrev main_v5 : Ref sig .tc := ⟨.hbm, 8, rfl⟩
abbrev main_c_2 : Ref sig .tc := ⟨.hbm, 9, rfl⟩
abbrev main_c_3 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c_4 : Ref sig .tc := ⟨.hbm, 16, rfl⟩
abbrev main_v11 : Ref sig .tc := ⟨.hbm, 17, rfl⟩
abbrev main_c_5 : Ref sig .tc := ⟨.hbm, 18, rfl⟩
abbrev main_v12 : Ref sig .tc := ⟨.hbm, 19, rfl⟩
abbrev main_c_6 : Ref sig .tc := ⟨.hbm, 20, rfl⟩
abbrev main_v13 : Ref sig .tc := ⟨.hbm, 21, rfl⟩
abbrev main_c_7 : Ref sig .tc := ⟨.hbm, 22, rfl⟩
abbrev main_v14 : Ref sig .tc := ⟨.hbm, 23, rfl⟩
abbrev main_v15 : Ref sig .tc := ⟨.hbm, 24, rfl⟩
abbrev main_c_8 : Ref sig .tc := ⟨.hbm, 25, rfl⟩
abbrev main_c_9 : Ref sig .tc := ⟨.hbm, 26, rfl⟩
abbrev main_v16 : Ref sig .tc := ⟨.hbm, 27, rfl⟩
abbrev main_v17 : Ref sig .tc := ⟨.hbm, 28, rfl⟩
abbrev main_c_10 : Ref sig .tc := ⟨.hbm, 29, rfl⟩
abbrev main_v18 : Ref sig .tc := ⟨.hbm, 30, rfl⟩
abbrev main_c_11 : Ref sig .tc := ⟨.hbm, 31, rfl⟩
abbrev main_v19 : Ref sig .tc := ⟨.hbm, 32, rfl⟩
abbrev main_c_12 : Ref sig .tc := ⟨.hbm, 33, rfl⟩
abbrev main_v20 : Ref sig .tc := ⟨.hbm, 34, rfl⟩
abbrev main_c_13 : Ref sig .tc := ⟨.hbm, 35, rfl⟩
abbrev main_v21 : Ref sig .tc := ⟨.hbm, 36, rfl⟩
abbrev main_v22 : Ref sig .tc := ⟨.hbm, 37, rfl⟩
abbrev main_c_14 : Ref sig .tc := ⟨.hbm, 38, rfl⟩
abbrev main_c_15 : Ref sig .tc := ⟨.hbm, 39, rfl⟩
abbrev main_v23 : Ref sig .tc := ⟨.hbm, 40, rfl⟩
abbrev main_v24 : Ref sig .tc := ⟨.hbm, 41, rfl⟩
abbrev main_c_16 : Ref sig .tc := ⟨.hbm, 42, rfl⟩
abbrev main_v25 : Ref sig .tc := ⟨.hbm, 43, rfl⟩
abbrev main_c_17 : Ref sig .tc := ⟨.hbm, 44, rfl⟩
abbrev main_v26 : Ref sig .tc := ⟨.hbm, 45, rfl⟩
abbrev main_c_18 : Ref sig .tc := ⟨.hbm, 46, rfl⟩
abbrev main_v27 : Ref sig .tc := ⟨.hbm, 47, rfl⟩
abbrev main_c_19 : Ref sig .tc := ⟨.hbm, 48, rfl⟩
abbrev main_v28 : Ref sig .tc := ⟨.hbm, 49, rfl⟩
abbrev main_v29 : Ref sig .tc := ⟨.hbm, 50, rfl⟩
abbrev main_c_20 : Ref sig .tc := ⟨.hbm, 51, rfl⟩
abbrev main_c_21 : Ref sig .tc := ⟨.hbm, 52, rfl⟩
abbrev main_v30 : Ref sig .tc := ⟨.hbm, 53, rfl⟩
abbrev main_v31 : Ref sig .tc := ⟨.hbm, 54, rfl⟩
abbrev main_c_22 : Ref sig .tc := ⟨.hbm, 55, rfl⟩
abbrev main_v32 : Ref sig .tc := ⟨.hbm, 56, rfl⟩
abbrev main_c_23 : Ref sig .tc := ⟨.hbm, 57, rfl⟩
abbrev main_v33 : Ref sig .tc := ⟨.hbm, 58, rfl⟩
abbrev main_c_24 : Ref sig .tc := ⟨.hbm, 59, rfl⟩
abbrev main_v34 : Ref sig .tc := ⟨.hbm, 60, rfl⟩
abbrev main_c_25 : Ref sig .tc := ⟨.hbm, 61, rfl⟩
abbrev main_v35 : Ref sig .tc := ⟨.hbm, 62, rfl⟩
abbrev main_v36 : Ref sig .tc := ⟨.hbm, 63, rfl⟩
abbrev main_c_26 : Ref sig .tc := ⟨.hbm, 64, rfl⟩
abbrev main_c_27 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_13 : BitVec 32 := 8#32
  let v22 : BitVec 32 := Scalar.muli v2 c8_i32_13
  let v23 : BitVec 32 := Scalar.addi c0_i32 v22
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_14 : BitVec 32 := 4#32
  let v24 : BitVec 32 := Scalar.muli v5 c4_i32_14
  let v25 : BitVec 32 := Scalar.addi v23 v24
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v11 : BitVec 32 := Scalar.addi v8 c1_i32_3
  let c4_i32_4 : BitVec 32 := 4#32
  let v12 : BitVec 32 := Scalar.remsi v11 c4_i32_4
  let c1_i32_15 : BitVec 32 := 1#32
  let v26 : BitVec 32 := Scalar.muli v12 c1_i32_15
  let v27 : BitVec 32 := Scalar.addi v25 v26
  v27.toNat
def k0_dev2 (d0 : Dev nD) : Nat :=
  let c0_i32_18 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_17 : BitVec 32 := 8#32
  let v28 : BitVec 32 := Scalar.muli v2 c8_i32_17
  let v29 : BitVec 32 := Scalar.addi c0_i32_18 v28
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_19 : BitVec 32 := 4#32
  let v30 : BitVec 32 := Scalar.muli v5 c4_i32_19
  let v31 : BitVec 32 := Scalar.addi v29 v30
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_5 : BitVec 32 := 2#32
  let v13 : BitVec 32 := Scalar.addi v8 c2_i32_5
  let c4_i32_6 : BitVec 32 := 4#32
  let v14 : BitVec 32 := Scalar.remsi v13 c4_i32_6
  let c1_i32_20 : BitVec 32 := 1#32
  let v32 : BitVec 32 := Scalar.muli v14 c1_i32_20
  let v33 : BitVec 32 := Scalar.addi v31 v32
  v33.toNat
def k0_dev3 (d0 : Dev nD) : Nat :=
  let c0_i32_23 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_22 : BitVec 32 := 8#32
  let v34 : BitVec 32 := Scalar.muli v2 c8_i32_22
  let v35 : BitVec 32 := Scalar.addi c0_i32_23 v34
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_24 : BitVec 32 := 4#32
  let v36 : BitVec 32 := Scalar.muli v5 c4_i32_24
  let v37 : BitVec 32 := Scalar.addi v35 v36
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v15 : BitVec 32 := Scalar.addi v8 c3_i32
  let c4_i32_7 : BitVec 32 := 4#32
  let v16 : BitVec 32 := Scalar.remsi v15 c4_i32_7
  let c1_i32_25 : BitVec 32 := 1#32
  let v38 : BitVec 32 := Scalar.muli v16 c1_i32_25
  let v39 : BitVec 32 := Scalar.addi v37 v38
  v39.toNat
def k0_dev4 (d0 : Dev nD) : Nat :=
  let c0_i32_28 : BitVec 32 := 0#32
  let c1_i32_8 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v17 : BitVec 32 := Scalar.subi c1_i32_8 v2
  let c8_i32_27 : BitVec 32 := 8#32
  let v40 : BitVec 32 := Scalar.muli v17 c8_i32_27
  let v41 : BitVec 32 := Scalar.addi c0_i32_28 v40
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_29 : BitVec 32 := 4#32
  let v42 : BitVec 32 := Scalar.muli v5 c4_i32_29
  let v43 : BitVec 32 := Scalar.addi v41 v42
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_30 : BitVec 32 := 1#32
  let v44 : BitVec 32 := Scalar.muli v8 c1_i32_30
  let v45 : BitVec 32 := Scalar.addi v43 v44
  v45.toNat
def k0_dev5 (d0 : Dev nD) : Nat :=
  let c0_i32_33 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_32 : BitVec 32 := 8#32
  let v46 : BitVec 32 := Scalar.muli v2 c8_i32_32
  let v47 : BitVec 32 := Scalar.addi c0_i32_33 v46
  let c1_i32_9 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v18 : BitVec 32 := Scalar.subi c1_i32_9 v5
  let c4_i32_34 : BitVec 32 := 4#32
  let v48 : BitVec 32 := Scalar.muli v18 c4_i32_34
  let v49 : BitVec 32 := Scalar.addi v47 v48
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_35 : BitVec 32 := 1#32
  let v50 : BitVec 32 := Scalar.muli v8 c1_i32_35
  let v51 : BitVec 32 := Scalar.addi v49 v50
  v51.toNat
def k0_dev6 (d0 : Dev nD) : Nat :=
  let c0_i32_38 : BitVec 32 := 0#32
  let c1_i32_10 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_10 v2
  let c8_i32_37 : BitVec 32 := 8#32
  let v52 : BitVec 32 := Scalar.muli v19 c8_i32_37
  let v53 : BitVec 32 := Scalar.addi c0_i32_38 v52
  let c1_i32_11 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_11 v5
  let c4_i32_39 : BitVec 32 := 4#32
  let v54 : BitVec 32 := Scalar.muli v20 c4_i32_39
  let v55 : BitVec 32 := Scalar.addi v53 v54
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_40 : BitVec 32 := 1#32
  let v56 : BitVec 32 := Scalar.muli v8 c1_i32_40
  let v57 : BitVec 32 := Scalar.addi v55 v56
  v57.toNat
def k0_off1 (d0 : Dev nD) (c1_i32_41 : BitVec 32) : Fin 3 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v58 : BitVec 32 := Scalar.addi v8 c1_i32_41
  let c4_i32_42 : BitVec 32 := 4#32
  let v59 : BitVec 32 := Scalar.remsi v58 c4_i32_42
  let v60 : Index := Scalar.indexCast v59
  let c0 : Index := 0#32
  let c0_43 : Index := 0#32
  ![v60.toNat, 0, 0]
def k0_dev7 (d0 : Dev nD) : Nat :=
  let c0_i32_68 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_67 : BitVec 32 := 8#32
  let v84 : BitVec 32 := Scalar.muli v2 c8_i32_67
  let v85 : BitVec 32 := Scalar.addi c0_i32_68 v84
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_69 : BitVec 32 := 4#32
  let v86 : BitVec 32 := Scalar.muli v5 c4_i32_69
  let v87 : BitVec 32 := Scalar.addi v85 v86
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_59 : BitVec 32 := 1#32
  let v82 : BitVec 32 := Scalar.addi v8 c1_i32_59
  let c4_i32_60 : BitVec 32 := 4#32
  let v83 : BitVec 32 := Scalar.remsi v82 c4_i32_60
  let c1_i32_70 : BitVec 32 := 1#32
  let v88 : BitVec 32 := Scalar.muli v83 c1_i32_70
  let v89 : BitVec 32 := Scalar.addi v87 v88
  v89.toNat
def k0_dev8 (d0 : Dev nD) : Nat :=
  let c0_i32_84 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_83 : BitVec 32 := 8#32
  let v100 : BitVec 32 := Scalar.muli v2 c8_i32_83
  let v101 : BitVec 32 := Scalar.addi c0_i32_84 v100
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_85 : BitVec 32 := 4#32
  let v102 : BitVec 32 := Scalar.muli v5 c4_i32_85
  let v103 : BitVec 32 := Scalar.addi v101 v102
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_75 : BitVec 32 := 2#32
  let v98 : BitVec 32 := Scalar.addi v8 c2_i32_75
  let c4_i32_76 : BitVec 32 := 4#32
  let v99 : BitVec 32 := Scalar.remsi v98 c4_i32_76
  let c1_i32_86 : BitVec 32 := 1#32
  let v104 : BitVec 32 := Scalar.muli v99 c1_i32_86
  let v105 : BitVec 32 := Scalar.addi v103 v104
  v105.toNat
def k0_dev9 (d0 : Dev nD) : Nat :=
  let c0_i32_100 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_99 : BitVec 32 := 8#32
  let v116 : BitVec 32 := Scalar.muli v2 c8_i32_99
  let v117 : BitVec 32 := Scalar.addi c0_i32_100 v116
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_101 : BitVec 32 := 4#32
  let v118 : BitVec 32 := Scalar.muli v5 c4_i32_101
  let v119 : BitVec 32 := Scalar.addi v117 v118
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_91 : BitVec 32 := 3#32
  let v114 : BitVec 32 := Scalar.addi v8 c3_i32_91
  let c4_i32_92 : BitVec 32 := 4#32
  let v115 : BitVec 32 := Scalar.remsi v114 c4_i32_92
  let c1_i32_102 : BitVec 32 := 1#32
  let v120 : BitVec 32 := Scalar.muli v115 c1_i32_102
  let v121 : BitVec 32 := Scalar.addi v119 v120
  v121.toNat
def k0_dev10 (d0 : Dev nD) : Nat :=
  let c0_i32_116 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_115 : BitVec 32 := 8#32
  let v132 : BitVec 32 := Scalar.muli v2 c8_i32_115
  let v133 : BitVec 32 := Scalar.addi c0_i32_116 v132
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_117 : BitVec 32 := 4#32
  let v134 : BitVec 32 := Scalar.muli v5 c4_i32_117
  let v135 : BitVec 32 := Scalar.addi v133 v134
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_107 : BitVec 32 := 1#32
  let v130 : BitVec 32 := Scalar.addi v8 c1_i32_107
  let c4_i32_108 : BitVec 32 := 4#32
  let v131 : BitVec 32 := Scalar.remsi v130 c4_i32_108
  let c1_i32_118 : BitVec 32 := 1#32
  let v136 : BitVec 32 := Scalar.muli v131 c1_i32_118
  let v137 : BitVec 32 := Scalar.addi v135 v136
  v137.toNat
def k0_dev11 (d0 : Dev nD) : Nat :=
  let c0_i32_131 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_130 : BitVec 32 := 8#32
  let v148 : BitVec 32 := Scalar.muli v2 c8_i32_130
  let v149 : BitVec 32 := Scalar.addi c0_i32_131 v148
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_132 : BitVec 32 := 4#32
  let v150 : BitVec 32 := Scalar.muli v5 c4_i32_132
  let v151 : BitVec 32 := Scalar.addi v149 v150
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_122 : BitVec 32 := 2#32
  let v146 : BitVec 32 := Scalar.addi v8 c2_i32_122
  let c4_i32_123 : BitVec 32 := 4#32
  let v147 : BitVec 32 := Scalar.remsi v146 c4_i32_123
  let c1_i32_133 : BitVec 32 := 1#32
  let v152 : BitVec 32 := Scalar.muli v147 c1_i32_133
  let v153 : BitVec 32 := Scalar.addi v151 v152
  v153.toNat
def k0_dev12 (d0 : Dev nD) : Nat :=
  let c0_i32_147 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_146 : BitVec 32 := 8#32
  let v164 : BitVec 32 := Scalar.muli v2 c8_i32_146
  let v165 : BitVec 32 := Scalar.addi c0_i32_147 v164
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_148 : BitVec 32 := 4#32
  let v166 : BitVec 32 := Scalar.muli v5 c4_i32_148
  let v167 : BitVec 32 := Scalar.addi v165 v166
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_138 : BitVec 32 := 3#32
  let v162 : BitVec 32 := Scalar.addi v8 c3_i32_138
  let c4_i32_139 : BitVec 32 := 4#32
  let v163 : BitVec 32 := Scalar.remsi v162 c4_i32_139
  let c1_i32_149 : BitVec 32 := 1#32
  let v168 : BitVec 32 := Scalar.muli v163 c1_i32_149
  let v169 : BitVec 32 := Scalar.addi v167 v168
  v169.toNat
def k0_dev13 (d0 : Dev nD) : Nat :=
  let c0_i32_163 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_162 : BitVec 32 := 8#32
  let v180 : BitVec 32 := Scalar.muli v2 c8_i32_162
  let v181 : BitVec 32 := Scalar.addi c0_i32_163 v180
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_164 : BitVec 32 := 4#32
  let v182 : BitVec 32 := Scalar.muli v5 c4_i32_164
  let v183 : BitVec 32 := Scalar.addi v181 v182
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_154 : BitVec 32 := 1#32
  let v178 : BitVec 32 := Scalar.addi v8 c1_i32_154
  let c4_i32_155 : BitVec 32 := 4#32
  let v179 : BitVec 32 := Scalar.remsi v178 c4_i32_155
  let c1_i32_165 : BitVec 32 := 1#32
  let v184 : BitVec 32 := Scalar.muli v179 c1_i32_165
  let v185 : BitVec 32 := Scalar.addi v183 v184
  v185.toNat
def k0_dev14 (d0 : Dev nD) : Nat :=
  let c0_i32_178 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_177 : BitVec 32 := 8#32
  let v196 : BitVec 32 := Scalar.muli v2 c8_i32_177
  let v197 : BitVec 32 := Scalar.addi c0_i32_178 v196
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_179 : BitVec 32 := 4#32
  let v198 : BitVec 32 := Scalar.muli v5 c4_i32_179
  let v199 : BitVec 32 := Scalar.addi v197 v198
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_169 : BitVec 32 := 2#32
  let v194 : BitVec 32 := Scalar.addi v8 c2_i32_169
  let c4_i32_170 : BitVec 32 := 4#32
  let v195 : BitVec 32 := Scalar.remsi v194 c4_i32_170
  let c1_i32_180 : BitVec 32 := 1#32
  let v200 : BitVec 32 := Scalar.muli v195 c1_i32_180
  let v201 : BitVec 32 := Scalar.addi v199 v200
  v201.toNat
def k0_dev15 (d0 : Dev nD) : Nat :=
  let c0_i32_194 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_193 : BitVec 32 := 8#32
  let v212 : BitVec 32 := Scalar.muli v2 c8_i32_193
  let v213 : BitVec 32 := Scalar.addi c0_i32_194 v212
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_195 : BitVec 32 := 4#32
  let v214 : BitVec 32 := Scalar.muli v5 c4_i32_195
  let v215 : BitVec 32 := Scalar.addi v213 v214
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_185 : BitVec 32 := 3#32
  let v210 : BitVec 32 := Scalar.addi v8 c3_i32_185
  let c4_i32_186 : BitVec 32 := 4#32
  let v211 : BitVec 32 := Scalar.remsi v210 c4_i32_186
  let c1_i32_196 : BitVec 32 := 1#32
  let v216 : BitVec 32 := Scalar.muli v211 c1_i32_196
  let v217 : BitVec 32 := Scalar.addi v215 v216
  v217.toNat
def k0_dev16 (d0 : Dev nD) : Nat :=
  let c0_i32_210 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_209 : BitVec 32 := 8#32
  let v228 : BitVec 32 := Scalar.muli v2 c8_i32_209
  let v229 : BitVec 32 := Scalar.addi c0_i32_210 v228
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_211 : BitVec 32 := 4#32
  let v230 : BitVec 32 := Scalar.muli v5 c4_i32_211
  let v231 : BitVec 32 := Scalar.addi v229 v230
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_201 : BitVec 32 := 1#32
  let v226 : BitVec 32 := Scalar.addi v8 c1_i32_201
  let c4_i32_202 : BitVec 32 := 4#32
  let v227 : BitVec 32 := Scalar.remsi v226 c4_i32_202
  let c1_i32_212 : BitVec 32 := 1#32
  let v232 : BitVec 32 := Scalar.muli v227 c1_i32_212
  let v233 : BitVec 32 := Scalar.addi v231 v232
  v233.toNat
def k0_dev17 (d0 : Dev nD) : Nat :=
  let c0_i32_225 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_224 : BitVec 32 := 8#32
  let v244 : BitVec 32 := Scalar.muli v2 c8_i32_224
  let v245 : BitVec 32 := Scalar.addi c0_i32_225 v244
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_226 : BitVec 32 := 4#32
  let v246 : BitVec 32 := Scalar.muli v5 c4_i32_226
  let v247 : BitVec 32 := Scalar.addi v245 v246
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_216 : BitVec 32 := 2#32
  let v242 : BitVec 32 := Scalar.addi v8 c2_i32_216
  let c4_i32_217 : BitVec 32 := 4#32
  let v243 : BitVec 32 := Scalar.remsi v242 c4_i32_217
  let c1_i32_227 : BitVec 32 := 1#32
  let v248 : BitVec 32 := Scalar.muli v243 c1_i32_227
  let v249 : BitVec 32 := Scalar.addi v247 v248
  v249.toNat
def k0_dev18 (d0 : Dev nD) : Nat :=
  let c0_i32_241 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_240 : BitVec 32 := 8#32
  let v260 : BitVec 32 := Scalar.muli v2 c8_i32_240
  let v261 : BitVec 32 := Scalar.addi c0_i32_241 v260
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_242 : BitVec 32 := 4#32
  let v262 : BitVec 32 := Scalar.muli v5 c4_i32_242
  let v263 : BitVec 32 := Scalar.addi v261 v262
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_232 : BitVec 32 := 3#32
  let v258 : BitVec 32 := Scalar.addi v8 c3_i32_232
  let c4_i32_233 : BitVec 32 := 4#32
  let v259 : BitVec 32 := Scalar.remsi v258 c4_i32_233
  let c1_i32_243 : BitVec 32 := 1#32
  let v264 : BitVec 32 := Scalar.muli v259 c1_i32_243
  let v265 : BitVec 32 := Scalar.addi v263 v264
  v265.toNat
def k0_off2 (d0 : Dev nD) : Fin 3 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v321 : Index := Scalar.indexCast v8
  let c0_299 : Index := 0#32
  let c0_300 : Index := 0#32
  ![v321.toNat, 0, 0]
def k0_dev19 (d0 : Dev nD) : Nat :=
  let c0_i32_309 : BitVec 32 := 0#32
  let c1_i32_8 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v17 : BitVec 32 := Scalar.subi c1_i32_8 v2
  let c8_i32_308 : BitVec 32 := 8#32
  let v330 : BitVec 32 := Scalar.muli v17 c8_i32_308
  let v331 : BitVec 32 := Scalar.addi c0_i32_309 v330
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_310 : BitVec 32 := 4#32
  let v332 : BitVec 32 := Scalar.muli v5 c4_i32_310
  let v333 : BitVec 32 := Scalar.addi v331 v332
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_311 : BitVec 32 := 1#32
  let v334 : BitVec 32 := Scalar.muli v8 c1_i32_311
  let v335 : BitVec 32 := Scalar.addi v333 v334
  v335.toNat
def k0_dev20 (d0 : Dev nD) : Nat :=
  let c0_i32_322 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_321 : BitVec 32 := 8#32
  let v343 : BitVec 32 := Scalar.muli v2 c8_i32_321
  let v344 : BitVec 32 := Scalar.addi c0_i32_322 v343
  let c1_i32_9 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v18 : BitVec 32 := Scalar.subi c1_i32_9 v5
  let c4_i32_323 : BitVec 32 := 4#32
  let v345 : BitVec 32 := Scalar.muli v18 c4_i32_323
  let v346 : BitVec 32 := Scalar.addi v344 v345
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_324 : BitVec 32 := 1#32
  let v347 : BitVec 32 := Scalar.muli v8 c1_i32_324
  let v348 : BitVec 32 := Scalar.addi v346 v347
  v348.toNat
def k0_dev21 (d0 : Dev nD) : Nat :=
  let c0_i32_335 : BitVec 32 := 0#32
  let c1_i32_10 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_10 v2
  let c8_i32_334 : BitVec 32 := 8#32
  let v356 : BitVec 32 := Scalar.muli v19 c8_i32_334
  let v357 : BitVec 32 := Scalar.addi c0_i32_335 v356
  let c1_i32_11 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_11 v5
  let c4_i32_336 : BitVec 32 := 4#32
  let v358 : BitVec 32 := Scalar.muli v20 c4_i32_336
  let v359 : BitVec 32 := Scalar.addi v357 v358
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_337 : BitVec 32 := 1#32
  let v360 : BitVec 32 := Scalar.muli v8 c1_i32_337
  let v361 : BitVec 32 := Scalar.addi v359 v360
  v361.toNat
def k0_off3 (d0 : Dev nD) : Fin 2 → Nat :=
  let c0_343 : Index := 0#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c128_i32_342 : BitVec 32 := 128#32
  let v369 : BitVec 32 := Scalar.muli v10 c128_i32_342
  let v370 : Index := Scalar.indexCast v369
  ![0, v370.toNat]
def k0_off4 (d0 : Dev nD) : Fin 3 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v419 : Index := Scalar.indexCast v8
  let c128_394 : Index := 128#32
  let c0_395 : Index := 0#32
  ![v419.toNat, 128, 0]
def k0_dev22 (d0 : Dev nD) : Nat :=
  let c0_i32_404 : BitVec 32 := 0#32
  let c1_i32_8 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v17 : BitVec 32 := Scalar.subi c1_i32_8 v2
  let c8_i32_403 : BitVec 32 := 8#32
  let v428 : BitVec 32 := Scalar.muli v17 c8_i32_403
  let v429 : BitVec 32 := Scalar.addi c0_i32_404 v428
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_405 : BitVec 32 := 4#32
  let v430 : BitVec 32 := Scalar.muli v5 c4_i32_405
  let v431 : BitVec 32 := Scalar.addi v429 v430
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_406 : BitVec 32 := 1#32
  let v432 : BitVec 32 := Scalar.muli v8 c1_i32_406
  let v433 : BitVec 32 := Scalar.addi v431 v432
  v433.toNat
def k0_dev23 (d0 : Dev nD) : Nat :=
  let c0_i32_417 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_416 : BitVec 32 := 8#32
  let v441 : BitVec 32 := Scalar.muli v2 c8_i32_416
  let v442 : BitVec 32 := Scalar.addi c0_i32_417 v441
  let c1_i32_9 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v18 : BitVec 32 := Scalar.subi c1_i32_9 v5
  let c4_i32_418 : BitVec 32 := 4#32
  let v443 : BitVec 32 := Scalar.muli v18 c4_i32_418
  let v444 : BitVec 32 := Scalar.addi v442 v443
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_419 : BitVec 32 := 1#32
  let v445 : BitVec 32 := Scalar.muli v8 c1_i32_419
  let v446 : BitVec 32 := Scalar.addi v444 v445
  v446.toNat
def k0_dev24 (d0 : Dev nD) : Nat :=
  let c0_i32_430 : BitVec 32 := 0#32
  let c1_i32_10 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_10 v2
  let c8_i32_429 : BitVec 32 := 8#32
  let v454 : BitVec 32 := Scalar.muli v19 c8_i32_429
  let v455 : BitVec 32 := Scalar.addi c0_i32_430 v454
  let c1_i32_11 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_11 v5
  let c4_i32_431 : BitVec 32 := 4#32
  let v456 : BitVec 32 := Scalar.muli v20 c4_i32_431
  let v457 : BitVec 32 := Scalar.addi v455 v456
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_432 : BitVec 32 := 1#32
  let v458 : BitVec 32 := Scalar.muli v8 c1_i32_432
  let v459 : BitVec 32 := Scalar.addi v457 v458
  v459.toNat
def k0_off5 (d0 : Dev nD) : Fin 2 → Nat :=
  let c128_438 : Index := 128#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c128_i32_437 : BitVec 32 := 128#32
  let v467 : BitVec 32 := Scalar.muli v10 c128_i32_437
  let v468 : Index := Scalar.indexCast v467
  ![128, v468.toNat]
def k0_off6 (d0 : Dev nD) : Fin 3 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v517 : Index := Scalar.indexCast v8
  let c256_489 : Index := 256#32
  let c0_490 : Index := 0#32
  ![v517.toNat, 256, 0]
def k0_dev25 (d0 : Dev nD) : Nat :=
  let c0_i32_499 : BitVec 32 := 0#32
  let c1_i32_8 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v17 : BitVec 32 := Scalar.subi c1_i32_8 v2
  let c8_i32_498 : BitVec 32 := 8#32
  let v526 : BitVec 32 := Scalar.muli v17 c8_i32_498
  let v527 : BitVec 32 := Scalar.addi c0_i32_499 v526
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_500 : BitVec 32 := 4#32
  let v528 : BitVec 32 := Scalar.muli v5 c4_i32_500
  let v529 : BitVec 32 := Scalar.addi v527 v528
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_501 : BitVec 32 := 1#32
  let v530 : BitVec 32 := Scalar.muli v8 c1_i32_501
  let v531 : BitVec 32 := Scalar.addi v529 v530
  v531.toNat
def k0_dev26 (d0 : Dev nD) : Nat :=
  let c0_i32_512 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_511 : BitVec 32 := 8#32
  let v539 : BitVec 32 := Scalar.muli v2 c8_i32_511
  let v540 : BitVec 32 := Scalar.addi c0_i32_512 v539
  let c1_i32_9 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v18 : BitVec 32 := Scalar.subi c1_i32_9 v5
  let c4_i32_513 : BitVec 32 := 4#32
  let v541 : BitVec 32 := Scalar.muli v18 c4_i32_513
  let v542 : BitVec 32 := Scalar.addi v540 v541
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_514 : BitVec 32 := 1#32
  let v543 : BitVec 32 := Scalar.muli v8 c1_i32_514
  let v544 : BitVec 32 := Scalar.addi v542 v543
  v544.toNat
def k0_dev27 (d0 : Dev nD) : Nat :=
  let c0_i32_525 : BitVec 32 := 0#32
  let c1_i32_10 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_10 v2
  let c8_i32_524 : BitVec 32 := 8#32
  let v552 : BitVec 32 := Scalar.muli v19 c8_i32_524
  let v553 : BitVec 32 := Scalar.addi c0_i32_525 v552
  let c1_i32_11 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_11 v5
  let c4_i32_526 : BitVec 32 := 4#32
  let v554 : BitVec 32 := Scalar.muli v20 c4_i32_526
  let v555 : BitVec 32 := Scalar.addi v553 v554
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_527 : BitVec 32 := 1#32
  let v556 : BitVec 32 := Scalar.muli v8 c1_i32_527
  let v557 : BitVec 32 := Scalar.addi v555 v556
  v557.toNat
def k0_off7 (d0 : Dev nD) : Fin 2 → Nat :=
  let c256_533 : Index := 256#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c128_i32_532 : BitVec 32 := 128#32
  let v565 : BitVec 32 := Scalar.muli v10 c128_i32_532
  let v566 : Index := Scalar.indexCast v565
  ![256, v566.toNat]
def k0_off8 (d0 : Dev nD) : Fin 3 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v615 : Index := Scalar.indexCast v8
  let c384_584 : Index := 384#32
  let c0_585 : Index := 0#32
  ![v615.toNat, 384, 0]
def k0_dev28 (d0 : Dev nD) : Nat :=
  let c0_i32_594 : BitVec 32 := 0#32
  let c1_i32_8 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v17 : BitVec 32 := Scalar.subi c1_i32_8 v2
  let c8_i32_593 : BitVec 32 := 8#32
  let v624 : BitVec 32 := Scalar.muli v17 c8_i32_593
  let v625 : BitVec 32 := Scalar.addi c0_i32_594 v624
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_595 : BitVec 32 := 4#32
  let v626 : BitVec 32 := Scalar.muli v5 c4_i32_595
  let v627 : BitVec 32 := Scalar.addi v625 v626
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_596 : BitVec 32 := 1#32
  let v628 : BitVec 32 := Scalar.muli v8 c1_i32_596
  let v629 : BitVec 32 := Scalar.addi v627 v628
  v629.toNat
def k0_dev29 (d0 : Dev nD) : Nat :=
  let c0_i32_607 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_606 : BitVec 32 := 8#32
  let v637 : BitVec 32 := Scalar.muli v2 c8_i32_606
  let v638 : BitVec 32 := Scalar.addi c0_i32_607 v637
  let c1_i32_9 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v18 : BitVec 32 := Scalar.subi c1_i32_9 v5
  let c4_i32_608 : BitVec 32 := 4#32
  let v639 : BitVec 32 := Scalar.muli v18 c4_i32_608
  let v640 : BitVec 32 := Scalar.addi v638 v639
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_609 : BitVec 32 := 1#32
  let v641 : BitVec 32 := Scalar.muli v8 c1_i32_609
  let v642 : BitVec 32 := Scalar.addi v640 v641
  v642.toNat
def k0_dev30 (d0 : Dev nD) : Nat :=
  let c0_i32_620 : BitVec 32 := 0#32
  let c1_i32_10 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_10 v2
  let c8_i32_619 : BitVec 32 := 8#32
  let v650 : BitVec 32 := Scalar.muli v19 c8_i32_619
  let v651 : BitVec 32 := Scalar.addi c0_i32_620 v650
  let c1_i32_11 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : BitVec 32 := Scalar.subi c1_i32_11 v5
  let c4_i32_621 : BitVec 32 := 4#32
  let v652 : BitVec 32 := Scalar.muli v20 c4_i32_621
  let v653 : BitVec 32 := Scalar.addi v651 v652
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_622 : BitVec 32 := 1#32
  let v654 : BitVec 32 := Scalar.muli v8 c1_i32_622
  let v655 : BitVec 32 := Scalar.addi v653 v654
  v655.toNat
def k0_off9 (d0 : Dev nD) : Fin 2 → Nat :=
  let c384_628 : Index := 384#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c128_i32_627 : BitVec 32 := 128#32
  let v663 : BitVec 32 := Scalar.muli v10 c128_i32_627
  let v664 : Index := Scalar.indexCast v663
  ![384, v664.toNat]
def k0_off10 (d0 : Dev nD) : Fin 2 → Nat :=
  let c0_653 : Index := 0#32
  let c2_i32_630 : BitVec 32 := 2#32
  let c1_i32_629 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v666 : BitVec 32 := Scalar.subi c1_i32_629 v2
  let v667 : BitVec 32 := Scalar.muli c2_i32_630 v666
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v668 : BitVec 32 := Scalar.addi v667 v5
  let c128_i32_652 : BitVec 32 := 128#32
  let v690 : BitVec 32 := Scalar.muli v668 c128_i32_652
  let v691 : Index := Scalar.indexCast v690
  ![0, v691.toNat]
def k0_off11 (d0 : Dev nD) : Fin 2 → Nat :=
  let c0_671 : Index := 0#32
  let c2_i32_631 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v669 : BitVec 32 := Scalar.muli c2_i32_631 v2
  let c1_i32_632 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v670 : BitVec 32 := Scalar.subi c1_i32_632 v5
  let v671 : BitVec 32 := Scalar.addi v669 v670
  let c128_i32_670 : BitVec 32 := 128#32
  let v707 : BitVec 32 := Scalar.muli v671 c128_i32_670
  let v708 : Index := Scalar.indexCast v707
  ![0, v708.toNat]
def k0_off12 (d0 : Dev nD) : Fin 2 → Nat :=
  let c0_689 : Index := 0#32
  let c2_i32_634 : BitVec 32 := 2#32
  let c1_i32_633 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v672 : BitVec 32 := Scalar.subi c1_i32_633 v2
  let v673 : BitVec 32 := Scalar.muli c2_i32_634 v672
  let c1_i32_635 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v674 : BitVec 32 := Scalar.subi c1_i32_635 v5
  let v675 : BitVec 32 := Scalar.addi v673 v674
  let c128_i32_688 : BitVec 32 := 128#32
  let v724 : BitVec 32 := Scalar.muli v675 c128_i32_688
  let v725 : Index := Scalar.indexCast v724
  ![0, v725.toNat]
def k0_off13 (d0 : Dev nD) : Fin 2 → Nat :=
  let c128_707 : Index := 128#32
  let c2_i32_630 : BitVec 32 := 2#32
  let c1_i32_629 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v666 : BitVec 32 := Scalar.subi c1_i32_629 v2
  let v667 : BitVec 32 := Scalar.muli c2_i32_630 v666
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v668 : BitVec 32 := Scalar.addi v667 v5
  let c128_i32_706 : BitVec 32 := 128#32
  let v741 : BitVec 32 := Scalar.muli v668 c128_i32_706
  let v742 : Index := Scalar.indexCast v741
  ![128, v742.toNat]
def k0_off14 (d0 : Dev nD) : Fin 2 → Nat :=
  let c128_725 : Index := 128#32
  let c2_i32_631 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v669 : BitVec 32 := Scalar.muli c2_i32_631 v2
  let c1_i32_632 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v670 : BitVec 32 := Scalar.subi c1_i32_632 v5
  let v671 : BitVec 32 := Scalar.addi v669 v670
  let c128_i32_724 : BitVec 32 := 128#32
  let v758 : BitVec 32 := Scalar.muli v671 c128_i32_724
  let v759 : Index := Scalar.indexCast v758
  ![128, v759.toNat]
def k0_off15 (d0 : Dev nD) : Fin 2 → Nat :=
  let c128_743 : Index := 128#32
  let c2_i32_634 : BitVec 32 := 2#32
  let c1_i32_633 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v672 : BitVec 32 := Scalar.subi c1_i32_633 v2
  let v673 : BitVec 32 := Scalar.muli c2_i32_634 v672
  let c1_i32_635 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v674 : BitVec 32 := Scalar.subi c1_i32_635 v5
  let v675 : BitVec 32 := Scalar.addi v673 v674
  let c128_i32_742 : BitVec 32 := 128#32
  let v775 : BitVec 32 := Scalar.muli v675 c128_i32_742
  let v776 : Index := Scalar.indexCast v775
  ![128, v776.toNat]
def k0_off16 (d0 : Dev nD) : Fin 2 → Nat :=
  let c256_761 : Index := 256#32
  let c2_i32_630 : BitVec 32 := 2#32
  let c1_i32_629 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v666 : BitVec 32 := Scalar.subi c1_i32_629 v2
  let v667 : BitVec 32 := Scalar.muli c2_i32_630 v666
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v668 : BitVec 32 := Scalar.addi v667 v5
  let c128_i32_760 : BitVec 32 := 128#32
  let v792 : BitVec 32 := Scalar.muli v668 c128_i32_760
  let v793 : Index := Scalar.indexCast v792
  ![256, v793.toNat]
def k0_off17 (d0 : Dev nD) : Fin 2 → Nat :=
  let c256_779 : Index := 256#32
  let c2_i32_631 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v669 : BitVec 32 := Scalar.muli c2_i32_631 v2
  let c1_i32_632 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v670 : BitVec 32 := Scalar.subi c1_i32_632 v5
  let v671 : BitVec 32 := Scalar.addi v669 v670
  let c128_i32_778 : BitVec 32 := 128#32
  let v809 : BitVec 32 := Scalar.muli v671 c128_i32_778
  let v810 : Index := Scalar.indexCast v809
  ![256, v810.toNat]
def k0_off18 (d0 : Dev nD) : Fin 2 → Nat :=
  let c256_797 : Index := 256#32
  let c2_i32_634 : BitVec 32 := 2#32
  let c1_i32_633 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v672 : BitVec 32 := Scalar.subi c1_i32_633 v2
  let v673 : BitVec 32 := Scalar.muli c2_i32_634 v672
  let c1_i32_635 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v674 : BitVec 32 := Scalar.subi c1_i32_635 v5
  let v675 : BitVec 32 := Scalar.addi v673 v674
  let c128_i32_796 : BitVec 32 := 128#32
  let v826 : BitVec 32 := Scalar.muli v675 c128_i32_796
  let v827 : Index := Scalar.indexCast v826
  ![256, v827.toNat]
def k0_off19 (d0 : Dev nD) : Fin 2 → Nat :=
  let c384_815 : Index := 384#32
  let c2_i32_630 : BitVec 32 := 2#32
  let c1_i32_629 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v666 : BitVec 32 := Scalar.subi c1_i32_629 v2
  let v667 : BitVec 32 := Scalar.muli c2_i32_630 v666
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v668 : BitVec 32 := Scalar.addi v667 v5
  let c128_i32_814 : BitVec 32 := 128#32
  let v843 : BitVec 32 := Scalar.muli v668 c128_i32_814
  let v844 : Index := Scalar.indexCast v843
  ![384, v844.toNat]
def k0_off20 (d0 : Dev nD) : Fin 2 → Nat :=
  let c384_833 : Index := 384#32
  let c2_i32_631 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v669 : BitVec 32 := Scalar.muli c2_i32_631 v2
  let c1_i32_632 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v670 : BitVec 32 := Scalar.subi c1_i32_632 v5
  let v671 : BitVec 32 := Scalar.addi v669 v670
  let c128_i32_832 : BitVec 32 := 128#32
  let v860 : BitVec 32 := Scalar.muli v671 c128_i32_832
  let v861 : Index := Scalar.indexCast v860
  ![384, v861.toNat]
def k0_off21 (d0 : Dev nD) : Fin 2 → Nat :=
  let c384_851 : Index := 384#32
  let c2_i32_634 : BitVec 32 := 2#32
  let c1_i32_633 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v672 : BitVec 32 := Scalar.subi c1_i32_633 v2
  let v673 : BitVec 32 := Scalar.muli c2_i32_634 v672
  let c1_i32_635 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v674 : BitVec 32 := Scalar.subi c1_i32_635 v5
  let v675 : BitVec 32 := Scalar.addi v673 v674
  let c128_i32_850 : BitVec 32 := 128#32
  let v877 : BitVec 32 := Scalar.muli v675 c128_i32_850
  let v878 : Index := Scalar.indexCast v877
  ![384, v878.toNat]
abbrev stage0_0 : Fin 1 → Memref sig .tc .vmem S4x512x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4x512x2048 : Shape := ⟨3, ![4, 512, 2048]⟩
abbrev S_ : Shape := ⟨0, ![]⟩
abbrev S512x2048 : Shape := ⟨2, ![512, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4x512x2048, .bf16⟩
  | .hbm, ⟨1, _⟩ => ⟨S4x512x2048, .f32⟩
  | .hbm, ⟨2, _⟩ => ⟨S_, .f32⟩
  | .hbm, ⟨3, _⟩ => ⟨S512x2048, .f32⟩
  | .hbm, ⟨4, _⟩ => ⟨S512x2048, .bf16⟩
  | .hbm, ⟨5, _⟩ => ⟨S512x2048, .f32⟩
  | _, _ => ⟨S4x512x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Proof.Program.lean ====
/- The kernel's body as a structured program: the same operations in the same order as the printed
   body, written once per kind of step over the row segment `g` and the slot `k`. -/
module

public import proofs.«01_k».proof.Proof.Gen.KernelIdeal.Skeleton

@[expose] public section

noncomputable section

namespace Cert.KernelIdeal.Talk

open Idealize.ShloMosaic Idealize.SL.Sem Cert.KernelIdeal.Gen

variable {F : FTy → Type} [FloatOps F]

/-- The kernel's staged input, all four column blocks of this device. -/
abbrev xM : Memref sig .tc .vmem S4x512x128 .bf16 := Memref.whole cc0_stg0_0
/-- The kernel's staged result. -/
abbrev oM : Memref sig .tc .vmem S512x512 .f32 := Memref.whole cc0_stg1_0
/-- The slabs a device sends along its ring of four. -/
abbrev szM : Memref sig .tc .vmem S3x512x128 .bf16 := Memref.whole cc0_scratch0
/-- The slabs a device receives along its ring of four. -/
abbrev rzM : Memref sig .tc .vmem S3x512x128 .bf16 := Memref.whole cc0_scratch1
/-- The sum a device sends to the three other rings. -/
abbrev sxM : Memref sig .tc .vmem S512x128 .bf16 := Memref.whole cc0_scratch2
/-- The sums a device receives from the three other rings. -/
abbrev rxM : Memref sig .tc .vmem S3x512x128 .bf16 := Memref.whole cc0_scratch3

/-- Slot `k`, segment `g` lies in the buffer. -/
theorem slot_inb (k : Fin 3) (g : Fin 4) :
    ∀ a, (![k.val, 128 * g.val, 0] : Fin 3 → Nat) a + S1x128x128.size a ≤ S3x512x128.size a := by
  revert k g; decide

/-- Slab `k` lies in the buffer. -/
theorem slab_inb (k : Fin 3) :
    ∀ a, (![k.val, 0, 0] : Fin 3 → Nat) a + S1x512x128.size a ≤ S3x512x128.size a := by
  revert k; decide

/-- Rows of segment `g` lie in the buffer. -/
theorem rows_inb (g : Fin 4) :
    ∀ a, (![128 * g.val, 0] : Fin 2 → Nat) a + S128x128.size a ≤ S512x128.size a := by
  revert g; decide

/-- Semaphore `(g, k)` lies in its array. -/
theorem sem_inb (g : Fin 4) (k : Fin 3) :
    ∀ a, (![g.val, k.val] : Fin 2 → Nat) a + S1x1.size a ≤ S4x3.size a := by
  revert g k; decide

/-- Slot `k`, segment `g` of a three-slab buffer. -/
abbrev slotR (k : Fin 3) (g : Fin 4) : Rect S3x512x128 :=
  Rect.unit (s := S3x512x128) ![k.val, 128 * g.val, 0] S1x128x128.size (slot_inb k g)
/-- Slab `k` of a three-slab buffer. -/
abbrev slabR (k : Fin 3) : Rect S3x512x128 :=
  Rect.unit (s := S3x512x128) ![k.val, 0, 0] S1x512x128.size (slab_inb k)
/-- The rows of segment `g`. -/
abbrev rowsR (g : Fin 4) : Rect S512x128 :=
  Rect.unit (s := S512x128) ![128 * g.val, 0] S128x128.size (rows_inb g)

/-- A slot is whole words. -/
theorem slot_words (k : Fin 3) (g : Fin 4) : (slotR k g).WholeWords (EltTy.packing .bf16) := by
  revert k g; decide
/-- A slab is packed rows. -/
theorem slab_packed (k : Fin 3) : (slabR k).PackedRows (EltTy.packing .bf16) := by
  revert k; decide
/-- A segment's rows are whole words. -/
theorem rows_words (g : Fin 4) : (rowsR g).WholeWords (EltTy.packing .bf16) := by
  revert g; decide
/-- A segment's rows are packed rows. -/
theorem rows_packed (g : Fin 4) : (rowsR g).PackedRows (EltTy.packing .bf16) := by
  revert g; decide

/-- Slot `k`, segment `g` of the buffer `r`, as a matrix. -/
abbrev slot (r : Memref sig .tc .vmem S3x512x128 .bf16) (k : Fin 3) (g : Fin 4) : Memref sig .tc .vmem S128x128 .bf16 :=
  (r.slice (slotR k g) (fun _ => rfl)).squeeze S128x128 squeezes_S1x128x128_S128x128
/-- The rows of segment `g` of the sum to be sent. -/
abbrev rows (g : Fin 4) : Memref sig .tc .vmem S128x128 .bf16 :=
  sxM.slice (rowsR g) (fun _ => rfl)

/-- Semaphore `(g, k)` of an array. -/
abbrev semAt (a : DmaSems sig S4x3) (g : Fin 4) (k : Fin 3) : DmaSem sig :=
  ((a.slice (Rect.unit (s := S4x3) ![g.val, k.val] S1x1.size (sem_inb g k))).squeeze S_ squeezes_S1x1_S_).sem

/-- The barrier semaphore. -/
abbrev barS : Sem sig := (SemArray.scalar (sig.barrier 0 rfl) : Sems sig S_).sem

/-- A slot of a whole buffer is moved in whole words. -/
theorem slot_exact (r : Memref sig .tc .vmem S3x512x128 .bf16) (hr : r.IsWhole) (k : Fin 3) (g : Fin 4) :
    (slot r k g).view.WordExact :=
  (hr.wordExact_slice rfl _ (slot_words k g)).reshape _ _
/-- A segment's rows are moved in whole words. -/
theorem rows_exact (g : Fin 4) : (rows g).view.WordExact :=
  (Memref.isWhole_whole cc0_scratch2).wordExact_slice rfl _ (rows_words g)

/-- The target of ring slot `j`'s copy of segment `g`. -/
def zDev : Fin 4 → Fin 3 → Dev nD → Dev nD
  | 0, 0, d => ⟨k0_dev7 d, k0_dev7_lt d⟩ | 0, 1, d => ⟨k0_dev8 d, k0_dev8_lt d⟩ | 0, 2, d => ⟨k0_dev9 d, k0_dev9_lt d⟩
  | 1, 0, d => ⟨k0_dev10 d, k0_dev10_lt d⟩ | 1, 1, d => ⟨k0_dev11 d, k0_dev11_lt d⟩ | 1, 2, d => ⟨k0_dev12 d, k0_dev12_lt d⟩
  | 2, 0, d => ⟨k0_dev13 d, k0_dev13_lt d⟩ | 2, 1, d => ⟨k0_dev14 d, k0_dev14_lt d⟩ | 2, 2, d => ⟨k0_dev15 d, k0_dev15_lt d⟩
  | 3, 0, d => ⟨k0_dev16 d, k0_dev16_lt d⟩ | 3, 1, d => ⟨k0_dev17 d, k0_dev17_lt d⟩ | 3, 2, d => ⟨k0_dev18 d, k0_dev18_lt d⟩
/-- The target of sum slot `s`'s copy of segment `g`. -/
def xyDev : Fin 4 → Fin 3 → Dev nD → Dev nD
  | 0, 0, d => ⟨k0_dev19 d, k0_dev19_lt d⟩ | 0, 1, d => ⟨k0_dev20 d, k0_dev20_lt d⟩ | 0, 2, d => ⟨k0_dev21 d, k0_dev21_lt d⟩
  | 1, 0, d => ⟨k0_dev22 d, k0_dev22_lt d⟩ | 1, 1, d => ⟨k0_dev23 d, k0_dev23_lt d⟩ | 1, 2, d => ⟨k0_dev24 d, k0_dev24_lt d⟩
  | 2, 0, d => ⟨k0_dev25 d, k0_dev25_lt d⟩ | 2, 1, d => ⟨k0_dev26 d, k0_dev26_lt d⟩ | 2, 2, d => ⟨k0_dev27 d, k0_dev27_lt d⟩
  | 3, 0, d => ⟨k0_dev28 d, k0_dev28_lt d⟩ | 3, 1, d => ⟨k0_dev29 d, k0_dev29_lt d⟩ | 3, 2, d => ⟨k0_dev30 d, k0_dev30_lt d⟩
/-- The target of the barrier signal `i`. -/
def barDev : Fin 6 → Dev nD → Dev nD
  | 0, d => ⟨k0_dev1 d, k0_dev1_lt d⟩ | 1, d => ⟨k0_dev2 d, k0_dev2_lt d⟩ | 2, d => ⟨k0_dev3 d, k0_dev3_lt d⟩
  | 3, d => ⟨k0_dev4 d, k0_dev4_lt d⟩ | 4, d => ⟨k0_dev5 d, k0_dev5_lt d⟩ | 5, d => ⟨k0_dev6 d, k0_dev6_lt d⟩

/-- The offsets of the device's own block of segment `g` in the staged input. -/
def ownOff : Fin 4 → Dev nD → Fin 3 → Nat
  | 0 => k0_off2 | 1 => k0_off4 | 2 => k0_off6 | 3 => k0_off8
/-- They lie in the staged input. -/
theorem ownOff_inb (g : Fin 4) (d : Dev nD) : ∀ a, ownOff g d a + S1x128x128.size a ≤ S4x512x128.size a := by
  match g with | 0 => exact k0_off2_inb d | 1 => exact k0_off4_inb d | 2 => exact k0_off6_inb d | 3 => exact k0_off8_inb d

/-- The offsets of the device's own sum of segment `g` in the result. -/
def sumOff : Fin 4 → Dev nD → Fin 2 → Nat
  | 0 => k0_off3 | 1 => k0_off5 | 2 => k0_off7 | 3 => k0_off9
/-- They lie in the result. -/
theorem sumOff_inb (g : Fin 4) (d : Dev nD) : ∀ a, sumOff g d a + S128x128.size a ≤ S512x512.size a := by
  match g with | 0 => exact k0_off3_inb d | 1 => exact k0_off5_inb d | 2 => exact k0_off7_inb d | 3 => exact k0_off9_inb d

/-- The offsets of the sum received in slot `s` of segment `g` in the result. -/
def recOff : Fin 4 → Fin 3 → Dev nD → Fin 2 → Nat
  | 0, 0 => k0_off10 | 0, 1 => k0_off11 | 0, 2 => k0_off12
  | 1, 0 => k0_off13 | 1, 1 => k0_off14 | 1, 2 => k0_off15
  | 2, 0 => k0_off16 | 2, 1 => k0_off17 | 2, 2 => k0_off18
  | 3, 0 => k0_off19 | 3, 1 => k0_off20 | 3, 2 => k0_off21
/-- They lie in the result. -/
theorem recOff_inb (g : Fin 4) (s : Fin 3) (d : Dev nD) : ∀ a, recOff g s d a + S128x128.size a ≤ S512x512.size a := by
  match g, s with
  | 0, 0 => exact k0_off10_inb d | 0, 1 => exact k0_off11_inb d | 0, 2 => exact k0_off12_inb d
  | 1, 0 => exact k0_off13_inb d | 1, 1 => exact k0_off14_inb d | 1, 2 => exact k0_off15_inb d
  | 2, 0 => exact k0_off16_inb d | 2, 1 => exact k0_off17_inb d | 2, 2 => exact k0_off18_inb d
  | 3, 0 => exact k0_off19_inb d | 3, 1 => exact k0_off20_inb d | 3, 2 => exact k0_off21_inb d

variable (F) in
/-- The kernel's programs over float values `F`. -/
abbrev Pg (α : Type) : Type 1 := Prog (TpuEff nD τ sig (Elt F) Λ₀ .tc) α

/-- One program per member of a list, in order, then the rest. -/
def each {ι : Type} (f : ι → Pg F PUnit) : List ι → Pg F PUnit → Pg F PUnit
  | [], k => k
  | i :: l, k => f i >>= fun _ => each f l k

/-- Barrier signal `i`. -/
def signal (d : Dev nD) (i : Fin 6) : Pg F PUnit := semSignalWord (barDev i d) barS 1#32

/-- Copies the input block of ring slot `j` into its slab. -/
def stage (d : Dev nD) (j : Fin 3) : Pg F PUnit := do
  let v : Vec F S1x512x128 .bf16 ← Prog.lift (.load xM (Rect.unit (s := S4x512x128) (k0_off1 d (BitVec.ofNat 32 (1 + j.val))) S1x512x128.size (k0_off1_inb d j)).toLoadRect (View.loadsAt_vmem h_S1x512x128))
  let _u : Vec F S1x512x128 .bf16 ← Prog.lift (.load szM (slabR j).toLoadRect (View.loadsAt_vmem h_S1x512x128))
  Prog.lift (.store szM (slabR j) (k0_pay1 v) Finset.univ (View.stores_vmem h_S1x512x128 ((Memref.isWhole_whole cc0_scratch0).storeExact_slice rfl _ (slab_packed j)) (fun _ => rfl)) (.inl rfl))

/-- Starts the copy of ring slot `j`, segment `g`, into the peer's slot. -/
def zSend (d : Dev nD) (g : Fin 4) (j : Fin 3) : Pg F PUnit :=
  Prog.lift (.enqueueDma (slot szM j g) (.remote (Dev.tc (zDev g j d)) (slot rzM j.rev g) (.dma (semAt cc0_scratch4 g j)))
    (.dma (semAt cc0_scratch5 g j.rev)) (slot_exact szM (Memref.isWhole_whole _) j g) (slot_exact rzM (Memref.isWhole_whole _) j.rev g) ⟨⟨rfl, Or.inl rfl⟩, trivial⟩)

/-- Waits for the receipt in the slot opposite `j`, segment `g`. -/
def zWait (g : Fin 4) (j : Fin 3) : Pg F PUnit :=
  Prog.lift (.waitDma2 (semAt cc0_scratch5 g j.rev) (slot szM j g) (slot rzM j.rev g) (slot_exact szM (Memref.isWhole_whole _) j g) (slot_exact rzM (Memref.isWhole_whole _) j.rev g))

/-- Starts the copy of the sum's segment `g` to peer `s`. -/
def xySend (d : Dev nD) (g : Fin 4) (s : Fin 3) : Pg F PUnit :=
  Prog.lift (.enqueueDma (rows g) (.remote (Dev.tc (xyDev g s d)) (slot rxM s g) (.dma (semAt cc0_scratch6 g s)))
    (.dma (semAt cc0_scratch7 g s)) (rows_exact g) (slot_exact rxM (Memref.isWhole_whole _) s g) ⟨⟨rfl, Or.inl rfl⟩, trivial⟩)

/-- Segment `g`: the receipts, the sum, its copies, its store into the result. -/
def seg (d : Dev nD) (g : Fin 4) : Pg F PUnit :=
  each (zWait g) [0, 1, 2] (do
    let a : Vec F S1x128x128 .bf16 ← Prog.lift (.load rzM (slotR 0 g).toLoadRect (View.loadsAt_vmem h_S1x128x128))
    let b : Vec F S1x128x128 .bf16 ← Prog.lift (.load rzM (slotR 1 g).toLoadRect (View.loadsAt_vmem h_S1x128x128))
    let c : Vec F S1x128x128 .bf16 ← Prog.lift (.load rzM (slotR 2 g).toLoadRect (View.loadsAt_vmem h_S1x128x128))
    let x : Vec F S1x128x128 .bf16 ← Prog.lift (.load xM (Rect.unit (s := S4x512x128) (ownOff g d) S1x128x128.size (ownOff_inb g d)).toLoadRect (View.loadsAt_vmem h_S1x128x128))
    let _u : Vec F S128x128 .bf16 ← Prog.lift (.load sxM (rowsR g).toLoadRect (View.loadsAt_vmem h_S128x128))
    Prog.lift (.store sxM (rowsR g) (k0_pay8 a b c x) Finset.univ (View.stores_vmem h_S128x128 ((Memref.isWhole_whole cc0_scratch2).storeExact_slice rfl _ (rows_packed g)) (fun _ => rfl)) (.inl rfl))
    each (xySend d g) [0, 1, 2] (do
      let _w : Vec F S128x128 .f32 ← Prog.lift (.load oM (Rect.unit (s := S512x512) (sumOff g d) S128x128.size (sumOff_inb g d)).toLoadRect (View.loadsAt_vmem h_S128x128))
      Prog.lift (.store oM (Rect.unit (s := S512x512) (sumOff g d) S128x128.size (sumOff_inb g d)) (k0_pay7 a b c x) Finset.univ (View.stores_vmem_bits_univ h_S128x128 rfl) (.inl rfl))))

/-- Waits for the sum in slot `s`, segment `g`, and stores it into the result. -/
def xyRecv (d : Dev nD) (g : Fin 4) (s : Fin 3) : Pg F PUnit := do
  Prog.lift (.waitDma2 (semAt cc0_scratch7 g s) (rows g) (slot rxM s g) (rows_exact g) (slot_exact rxM (Memref.isWhole_whole _) s g))
  let v : Vec F S1x128x128 .bf16 ← Prog.lift (.load rxM (slotR s g).toLoadRect (View.loadsAt_vmem h_S1x128x128))
  let _w : Vec F S128x128 .f32 ← Prog.lift (.load oM (Rect.unit (s := S512x512) (recOff g s d) S128x128.size (recOff_inb g s d)).toLoadRect (View.loadsAt_vmem h_S128x128))
  Prog.lift (.store oM (Rect.unit (s := S512x512) (recOff g s d) S128x128.size (recOff_inb g s d)) (k0_pay14 v) Finset.univ (View.stores_vmem_bits_univ h_S128x128 rfl) (.inl rfl))

/-- Waits until the ring copy of slot `j`, segment `g`, has left. -/
def zDrain (g : Fin 4) (j : Fin 3) : Pg F PUnit :=
  Prog.lift (.waitDma2 (semAt cc0_scratch4 g j) (slot rzM j.rev g) (slot szM j g) (slot_exact rzM (Memref.isWhole_whole _) j.rev g) (slot_exact szM (Memref.isWhole_whole _) j g))

/-- Waits until the copy of the sum's segment `g` to peer `s` has left. -/
def xyDrain (g : Fin 4) (s : Fin 3) : Pg F PUnit :=
  Prog.lift (.waitDma2 (semAt cc0_scratch6 g s) (slot rxM s g) (rows g) (slot_exact rxM (Memref.isWhole_whole _) s g) (rows_exact g))

/-- All pairs of a segment and a slot, segment by segment. -/
abbrev pairs : List (Fin 4 × Fin 3) :=
  [(0, 0), (0, 1), (0, 2), (1, 0), (1, 1), (1, 2), (2, 0), (2, 1), (2, 2), (3, 0), (3, 1), (3, 2)]

/-- The whole body on device `d`. -/
def talk (d : Dev nD) : Pg F PUnit :=
  each (signal d) [0, 1, 2, 3, 4, 5] <|
  each (stage d) [0, 1, 2] <|
  semWaitWord barS 6#32 >>= fun _ =>
  each (fun p => zSend d p.1 p.2) pairs <|
  each (seg d) [0, 1, 2, 3] <|
  each (fun p => xyRecv d p.1 p.2) pairs <|
  each (fun g => each (zDrain g) [0, 1, 2] (each (xyDrain g) [0, 1, 2] (pure ⟨⟩))) [0, 1, 2, 3] <|
  pure ⟨⟩

set_option maxRecDepth 65536 in
/-- The printed body is the structured program. -/
theorem body_eq : cc0_body (F := F) xM (Memref.isWhole_whole _) oM (Memref.isWhole_whole _) szM (Memref.isWhole_whole _)
    rzM (Memref.isWhole_whole _) sxM (Memref.isWhole_whole _) rxM (Memref.isWhole_whole _)
    cc0_scratch4 cc0_scratch5 cc0_scratch6 cc0_scratch7
    = Prog.lift .deviceId >>= talk := by
  rw [cc0_body_eq_skeleton]
  rfl

end Cert.KernelIdeal.Talk
-- ==== Proof.Contents.lean ====
/- The mesh's neighbours, where each copy goes, and what every buffer holds: one function of the
   devices' staged inputs for each buffer of the kernel. -/
module

public import proofs.«01_k».proof.Proof.Program
public import Idealize.ShloMosaic.Lib.ValueLayout

@[expose] public section

noncomputable section

namespace Cert.KernelIdeal.Talk

open Idealize.ShloMosaic Idealize.SL.Sem Cert.KernelIdeal.Gen Idealize.ShloMosaic.ValueIdx

variable {F : FTy → Type} [FloatOps F]

/-! ## Neighbours -/

/-- The device `j + 1` steps on in the ring of four. -/
def zPeer (j : Fin 3) (d : Dev nD) : Dev nD := ⟨4 * (d.val / 4) + (d.val % 4 + j.val + 1) % 4, by
  have h : d.val < 16 := d.isLt
  show _ < 16; omega⟩

/-- The device across the plane: the first coordinate, the second, or both changed. -/
def xyPeer (s : Fin 3) (d : Dev nD) : Dev nD := match s with
  | 0 => ⟨(d.val + 8) % 16, Nat.mod_lt _ (by decide)⟩
  | 1 => ⟨8 * (d.val / 8) + (d.val + 4) % 8, by
      have h : d.val < 16 := d.isLt
      show _ < 16; omega⟩
  | 2 => ⟨8 * ((d.val + 8) % 16 / 8) + (d.val + 4) % 8, by
      have h : d.val < 16 := d.isLt
      show _ < 16; omega⟩

/-- The device that barrier signal `i` goes to. -/
def bPeer (i : Fin 6) (d : Dev nD) : Dev nD := match i with
  | 0 => zPeer 0 d | 1 => zPeer 1 d | 2 => zPeer 2 d
  | 3 => xyPeer 0 d | 4 => xyPeer 1 d | 5 => xyPeer 2 d

/-- The column quarter a device sums and sends. -/
def qOf (d : Dev nD) : Fin 4 := ⟨d.val / 4, by
  have h : d.val < 16 := d.isLt
  omega⟩

/-- The slot in which quarter `q` reaches device `d`. -/
def sOf (d : Dev nD) (q : Fin 4) : Fin 3 :=
  if qOf (xyPeer 0 d) = q then 0 else if qOf (xyPeer 1 d) = q then 1 else 2

/-- Going on and then going on by the rest of the ring comes back. -/
theorem zPeer_rev (j : Fin 3) (d : Dev nD) : zPeer j.rev (zPeer j d) = d := by revert j d; decide
/-- The same, the other way round. -/
theorem zPeer_rev' (j : Fin 3) (d : Dev nD) : zPeer j (zPeer j.rev d) = d := by revert j d; decide
/-- Crossing the plane twice comes back. -/
theorem xyPeer_xyPeer (s : Fin 3) (d : Dev nD) : xyPeer s (xyPeer s d) = d := by revert s d; decide
/-- The peer of slot `s` sums another quarter. -/
theorem qOf_xyPeer_ne (s : Fin 3) (d : Dev nD) : qOf (xyPeer s d) ≠ qOf d := by revert s d; decide
/-- Its quarter arrives in slot `s`. -/
theorem sOf_qOf (s : Fin 3) (d : Dev nD) : sOf d (qOf (xyPeer s d)) = s := by revert s d; decide

/-- The ring copies go to the ring peers. -/
theorem zDev_eq (g : Fin 4) (j : Fin 3) (d : Dev nD) : zDev g j d = zPeer j d := by
  revert g j d; decide +kernel
/-- The plane copies go to the plane peers. -/
theorem xyDev_eq (g : Fin 4) (s : Fin 3) (d : Dev nD) : xyDev g s d = xyPeer s d := by
  revert g s d; decide +kernel
/-- The barrier signals go to the six peers. -/
theorem barDev_eq (i : Fin 6) (d : Dev nD) : barDev i d = bPeer i d := by
  revert i d; decide +kernel

/-! ## Offsets -/

/-- The block staged for ring slot `j`. -/
theorem stageOff_eq (j : Fin 3) (d : Dev nD) :
    k0_off1 d (BitVec.ofNat 32 (1 + j.val)) = ![(d.val % 4 + j.val + 1) % 4, 0, 0] := by
  revert j d; decide +kernel
/-- The device's own block of segment `g`. -/
theorem ownOff_eq (g : Fin 4) (d : Dev nD) : ownOff g d = ![d.val % 4, 128 * g.val, 0] := by
  revert g d; decide +kernel
/-- Where its sum goes in the result. -/
theorem sumOff_eq (g : Fin 4) (d : Dev nD) : sumOff g d = ![128 * g.val, 128 * (qOf d).val] := by
  revert g d; decide +kernel
/-- Where the sum of slot `s` goes in the result. -/
theorem recOff_eq (g : Fin 4) (s : Fin 3) (d : Dev nD) :
    recOff g s d = ![128 * g.val, 128 * (qOf (xyPeer s d)).val] := by
  revert g s d; decide +kernel

/-! ## Rectangles -/

/-- Block `(g, q)` lies in the result. -/
theorem block_inb (g q : Fin 4) :
    ∀ a, (![128 * g.val, 128 * q.val] : Fin 2 → Nat) a + S128x128.size a ≤ S512x512.size a := by
  revert g q; decide
/-- Row segment `g`, column quarter `q` of the result. -/
abbrev blockR (g q : Fin 4) : Rect S512x512 :=
  Rect.unit (s := S512x512) ![128 * g.val, 128 * q.val] S128x128.size (block_inb g q)

/-- Where a slot's index lies. -/
theorem slotR_emb (k : Fin 3) (g : Fin 4) (y : S1x128x128.Idx) :
    (slotR k g).emb y = ix3 (k : Fin 3) (⟨128 * g.val + (y 1).val, by
      have h : (y 1).val < 128 := (y 1).isLt
      show _ < 512; omega⟩ : Fin 512) (y 2 : Fin 128) := by
  have h0 : (y 0).val < 1 := (y 0).isLt
  funext a
  refine Fin.ext ?_
  rw [Rect.emb_apply]
  match a with
  | 0 => show k.val + 1 * (y 0).val = k.val; omega
  | 1 => show 128 * g.val + 1 * (y 1).val = 128 * g.val + (y 1).val; omega
  | 2 => show 0 + 1 * (y 2).val = (y 2).val; omega

/-- Where a slab's index lies. -/
theorem slabR_emb (k : Fin 3) (y : S1x512x128.Idx) :
    (slabR k).emb y = ix3 (k : Fin 3) (y 1 : Fin 512) (y 2 : Fin 128) := by
  have h0 : (y 0).val < 1 := (y 0).isLt
  funext a
  refine Fin.ext ?_
  rw [Rect.emb_apply]
  match a with
  | 0 => show k.val + 1 * (y 0).val = k.val; omega
  | 1 => show 0 + 1 * (y 1).val = (y 1).val; omega
  | 2 => show 0 + 1 * (y 2).val = (y 2).val; omega

/-- Where an index of a segment's rows lies. -/
theorem rowsR_emb (g : Fin 4) (y : S128x128.Idx) :
    (rowsR g).emb y = ix2 (⟨128 * g.val + (y 0).val, by
      have h : (y 0).val < 128 := (y 0).isLt
      show _ < 512; omega⟩ : Fin 512) (y 1 : Fin 128) := by
  funext a
  refine Fin.ext ?_
  rw [Rect.emb_apply]
  match a with
  | 0 => show 128 * g.val + 1 * (y 0).val = 128 * g.val + (y 0).val; omega
  | 1 => show 0 + 1 * (y 1).val = (y 1).val; omega

/-- Where an index of a block of the result lies. -/
theorem blockR_emb (g q : Fin 4) (y : S128x128.Idx) :
    (blockR g q).emb y = ix2 (⟨128 * g.val + (y 0).val, by
      have h : (y 0).val < 128 := (y 0).isLt
      show _ < 512; omega⟩ : Fin 512) (⟨128 * q.val + (y 1).val, by
      have h : (y 1).val < 128 := (y 1).isLt
      show _ < 512; omega⟩ : Fin 512) := by
  funext a
  refine Fin.ext ?_
  rw [Rect.emb_apply]
  match a with
  | 0 => show 128 * g.val + 1 * (y 0).val = 128 * g.val + (y 0).val; omega
  | 1 => show 128 * q.val + 1 * (y 1).val = 128 * q.val + (y 1).val; omega

/-! ## What the buffers hold -/

variable (F) in
/-- What one device's staged input holds. -/
abbrev In : Type := S4x512x128.Idx → Elt F .bf16

variable (X : Dev nD → In F)

/-- The slabs device `d` sends along its ring: the column blocks of its peers. -/
def szF (d : Dev nD) (i : S3x512x128.Idx) : Elt F .bf16 :=
  X d (ix3 (⟨(d.val % 4 + (i 0).val + 1) % 4, Nat.mod_lt _ (by decide)⟩ : Fin 4) (i 1 : Fin 512) (i 2 : Fin 128))

/-- The slabs it receives along its ring: its own column block of its peers' inputs. -/
def rzF (d : Dev nD) (i : S3x512x128.Idx) : Elt F .bf16 :=
  szF X (zPeer (i 0) d) (ix3 (Fin.rev (i 0 : Fin 3)) (i 1 : Fin 512) (i 2 : Fin 128))

/-- Its own block of segment `g`. -/
def ownF (d : Dev nD) (g : Fin 4) (y : S1x128x128.Idx) : Elt F .bf16 :=
  X d ((Rect.unit (s := S4x512x128) (ownOff g d) S1x128x128.size (ownOff_inb g d)).emb y)

/-- What slot `k`, segment `g` of the received slabs reads. -/
def rzRd (d : Dev nD) (g : Fin 4) (k : Fin 3) (y : S1x128x128.Idx) : Elt F .bf16 :=
  rzF X d ((slotR k g).emb y)

/-- The sum of segment `g`. -/
def accF (d : Dev nD) (g : Fin 4) : S128x128.Idx → Elt F .f32 :=
  k0_pay7 (rzRd X d g 0) (rzRd X d g 1) (rzRd X d g 2) (ownF X d g)

/-- The sum of segment `g`, rounded. -/
def sumF (d : Dev nD) (g : Fin 4) : S128x128.Idx → Elt F .bf16 :=
  k0_pay8 (rzRd X d g 0) (rzRd X d g 1) (rzRd X d g 2) (ownF X d g)

/-- The segment of a row. -/
def segOf (r : Fin 512) : Fin 4 := ⟨r.val / 128, by omega⟩
/-- Its place in the segment. -/
def inSeg (r : Fin 512) : Fin 128 := ⟨r.val % 128, by omega⟩

/-- The sum a device sends across the plane. -/
def sxF (d : Dev nD) (i : S512x128.Idx) : Elt F .bf16 :=
  sumF X d (segOf (i 0)) (ix2 (inSeg (i 0)) (i 1 : Fin 128))

/-- The sums it receives. -/
def rxF (d : Dev nD) (i : S3x512x128.Idx) : Elt F .bf16 :=
  sxF X (xyPeer (i 0) d) (ix2 (i 1 : Fin 512) (i 2 : Fin 128))

/-- What slot `s`, segment `g` of the received sums reads. -/
def rxRd (d : Dev nD) (g : Fin 4) (s : Fin 3) (y : S1x128x128.Idx) : Elt F .bf16 :=
  rxF X d ((slotR s g).emb y)

/-- Block `(g, q)` of the result. -/
def outF (d : Dev nD) (g q : Fin 4) : S128x128.Idx → Elt F .f32 :=
  if q = qOf d then accF X d g else k0_pay14 (rxRd X d g (sOf d q))

/-- The result. -/
def oF (d : Dev nD) (i : S512x512.Idx) : Elt F .f32 :=
  outF X d (segOf (i 0)) (segOf (i 1)) (ix2 (inSeg (i 0)) (inSeg (i 1)))

/-- A row `r` of segment `g` is in segment `g`. -/
theorem segOf_mk (g : Fin 4) (r : Fin 128) (h : 128 * g.val + r.val < 512) : segOf ⟨128 * g.val + r.val, h⟩ = g :=
  Fin.ext (by show (128 * g.val + r.val) / 128 = g.val; omega)
/-- And at place `r` of it. -/
theorem inSeg_mk (g : Fin 4) (r : Fin 128) (h : 128 * g.val + r.val < 512) : inSeg ⟨128 * g.val + r.val, h⟩ = r :=
  Fin.ext (by show (128 * g.val + r.val) % 128 = r.val; omega)

/-! ## What each step leaves -/

/-- A slab is stored as it was loaded. -/
theorem pay1_eq (v : Vec F S1x512x128 .bf16) : k0_pay1 v = v :=
  shapeCast_shapeCast v shapeCasts_S1x512x128_S512x128 shapeCasts_S512x128_S1x512x128

/-- Staging leaves the slab of ring slot `j`. -/
theorem szF_slab (d : Dev nD) (j : Fin 3) (y : S1x512x128.Idx) :
    szF X d ((slabR j).emb y) = k0_pay1 (fun y => X d ((Rect.unit (s := S4x512x128)
      (k0_off1 d (BitVec.ofNat 32 (1 + j.val))) S1x512x128.size (k0_off1_inb d j)).emb y)) y := by
  rw [slabR_emb, pay1_eq]
  have h0 : (y 0).val < 1 := (y 0).isLt
  refine congrArg (X d) (funext fun a => Fin.ext ?_)
  rw [Rect.emb_apply]
  have ho := congrFun (stageOff_eq j d) a
  show _ = k0_off1 d (BitVec.ofNat 32 (1 + j.val)) a + 1 * (y a).val
  rw [ho]
  match a with
  | 0 => show (d.val % 4 + j.val + 1) % 4 = (d.val % 4 + j.val + 1) % 4 + 1 * (y 0).val; omega
  | 1 => show (y 1).val = 0 + 1 * (y 1).val; omega
  | 2 => show (y 2).val = 0 + 1 * (y 2).val; omega

/-- A ring copy carries the sender's slab into the receiver's. -/
theorem rzF_slot (d : Dev nD) (g : Fin 4) (j : Fin 3) (y : S1x128x128.Idx) :
    rzF X (zPeer j d) ((slotR j.rev g).emb y) = szF X d ((slotR j g).emb y) := by
  rw [slotR_emb, slotR_emb]
  show szF X (zPeer j.rev (zPeer j d)) (ix3 (Fin.rev j.rev) _ _) = _
  rw [zPeer_rev, Fin.rev_rev]
  rfl

/-- The sum stored for the plane. -/
theorem sxF_rows (d : Dev nD) (g : Fin 4) (y : S128x128.Idx) : sxF X d ((rowsR g).emb y) = sumF X d g y := by
  rw [rowsR_emb]
  show sumF X d (segOf _) (ix2 (inSeg _) (y 1)) = _
  rw [segOf_mk g (y 0), inSeg_mk g (y 0)]
  exact congrArg _ (eq_ix2 (n0 := 128) (n1 := 128) y).symm

/-- A plane copy carries the sender's rows into the receiver's slot. -/
theorem rxF_slot (d : Dev nD) (g : Fin 4) (s : Fin 3) (y : S1x128x128.Idx) :
    rxF X (xyPeer s d) ((slotR s g).emb y) = sxF X d ((rowsR g).emb (ix2 (y 1 : Fin 128) (y 2 : Fin 128))) := by
  rw [slotR_emb, rowsR_emb]
  show sxF X (xyPeer s (xyPeer s d)) _ = _
  rw [xyPeer_xyPeer]
  rfl

/-- A block of the result. -/
theorem oF_block (d : Dev nD) (g q : Fin 4) (y : S128x128.Idx) : oF X d ((blockR g q).emb y) = outF X d g q y := by
  rw [blockR_emb]
  show outF X d (segOf _) (segOf _) (ix2 (inSeg _) (inSeg _)) = _
  rw [segOf_mk g (y 0), inSeg_mk g (y 0), segOf_mk q (y 1), inSeg_mk q (y 1)]
  exact congrArg _ (eq_ix2 (n0 := 128) (n1 := 128) y).symm

/-- The device's own block of the result. -/
theorem outF_own (d : Dev nD) (g : Fin 4) : outF X d g (qOf d) = accF X d g := if_pos rfl
/-- The block received in slot `s`. -/
theorem outF_rec (d : Dev nD) (g : Fin 4) (s : Fin 3) :
    outF X d g (qOf (xyPeer s d)) = k0_pay14 (rxRd X d g s) := by
  unfold outF
  rw [if_neg (qOf_xyPeer_ne s d), sOf_qOf]

end Cert.KernelIdeal.Talk
-- ==== Proof.Cells.lean ====
/- The kernel's semaphores, what passes through each, and the schedule of its one round. -/
module

public import proofs.«01_k».proof.Proof.Contents
public import Idealize.ShloMosaic.Lib.Pipeline.RegionTalk
public import Idealize.ShloMosaic.Lib.Rounds.Family
public import Idealize.ShloMosaic.Lib.Ring.Trips

@[expose] public section

noncomputable section

namespace Cert.KernelIdeal.Talk

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (shares3 pointsTo_thirds)

variable {F : FTy → Type} [FloatOps F]

/-! ## Ghost state -/

/-- The pipeline's rounds and this kernel's. -/
abbrev UU : Type := UR sig nD τ × URounds (GSem nD τ sig) (Fin 6)

local notation "𝕄" => MT nD τ sig Unit (Elt F) ℕ UU ℕ

/-- Where the pipeline's ghost state lies. -/
abbrev EP : Emb (UR sig nD τ) (MT nD τ sig Unit (Elt F) ℕ UU ℕ) := embL
/-- Where this kernel's lies. -/
abbrev ER : Emb (URounds (GSem nD τ sig) (Fin 6)) (MT nD τ sig Unit (Elt F) ℕ UU ℕ) := embR

/-! ## Cells -/

/-- The DMA semaphore `(g, k)` of array `t`: ring copies leaving, ring copies arriving, plane copies leaving,
    plane copies arriving. -/
def dS (t g : Fin 4) (k : Fin 3) : DmaSem sig := ⟨2 + 12 * t.val + 3 * g.val + k.val, by
  show _ < 50; omega⟩

/-- What a semaphore is for. -/
inductive Role : Type
  | bar | cell (t g : Fin 4) (k : Fin 3) | other
  deriving DecidableEq

/-- What each semaphore is for. -/
def role : SemLoc sig → Role
  | .reg _ => .bar
  | .dma s => if h : 2 ≤ s.val ∧ s.val < 50 then
      .cell ⟨(s.val - 2) / 12, by omega⟩ ⟨(s.val - 2) % 12 / 3, by omega⟩ ⟨(s.val - 2) % 3, by omega⟩ else .other

/-- A DMA semaphore of the kernel's own names its array and its place. -/
theorem role_dS (t g : Fin 4) (k : Fin 3) : role (.dma (dS t g k)) = .cell t g k := by
  revert t g k; decide

/-- The four arrays' semaphores. -/
theorem semAt_0 (g : Fin 4) (k : Fin 3) : semAt cc0_scratch4 g k = dS 0 g k := by revert g k; decide
theorem semAt_1 (g : Fin 4) (k : Fin 3) : semAt cc0_scratch5 g k = dS 1 g k := by revert g k; decide
theorem semAt_2 (g : Fin 4) (k : Fin 3) : semAt cc0_scratch6 g k = dS 2 g k := by revert g k; decide
theorem semAt_3 (g : Fin 4) (k : Fin 3) : semAt cc0_scratch7 g k = dS 3 g k := by revert g k; decide

/-- Device `c`'s barrier cell. -/
abbrev barCell (c : Dev nD) : GSem nD τ sig := ((c : Thread nD τ), .reg barS)
/-- Device `c`'s cell `(g, k)` of array `t`. -/
abbrev dCell (t g : Fin 4) (k : Fin 3) (c : Dev nD) : GSem nD τ sig := ((c : Thread nD τ), .dma (dS t g k))

/-! ## Points-tos of the pieces -/

/-- A slot of the slabs to send. -/
def szPts (c : Dev nD) (k : Fin 3) (g : Fin 4) (f : S3x512x128.Idx → Elt F .bf16) : sProp 𝕄 :=
  ((c : Thread nD τ).loc cc0_scratch0) ↦[(slotR k g).set]{fullShare} f
/-- A slot of the slabs received. -/
def rzPts (c : Dev nD) (k : Fin 3) (g : Fin 4) (f : S3x512x128.Idx → Elt F .bf16) : sProp 𝕄 :=
  ((c : Thread nD τ).loc cc0_scratch1) ↦[(slotR k g).set]{fullShare} f
/-- A segment of the sum to send, at a share. -/
def sxPts (c : Dev nD) (q : PosShare TreeShare) (g : Fin 4) (f : S512x128.Idx → Elt F .bf16) : sProp 𝕄 :=
  ((c : Thread nD τ).loc cc0_scratch2) ↦[(rowsR g).set]{q} f
/-- A slot of the sums received. -/
def rxPts (c : Dev nD) (k : Fin 3) (g : Fin 4) (f : S3x512x128.Idx → Elt F .bf16) : sProp 𝕄 :=
  ((c : Thread nD τ).loc cc0_scratch3) ↦[(slotR k g).set]{fullShare} f
/-- A block of the result. -/
def oPts (c : Dev nD) (g q : Fin 4) (f : S512x512.Idx → Elt F .f32) : sProp 𝕄 :=
  ((c : Thread nD τ).loc cc0_stg1_0) ↦[(blockR g q).set]{fullShare} f
/-- The staged input, whole. -/
def xPts (c : Dev nD) (f : S4x512x128.Idx → Elt F .bf16) : sProp 𝕄 :=
  ((c : Thread nD τ).loc cc0_stg0_0) ↦{fullShare} f

/-! ## The schedule -/

/-- What one copy credits. -/
abbrev N : ℕ := (rows 0).view.dmaCredit
/-- It is some. -/
theorem N_pos : 0 < N := View.dmaCredit_pos _ (by decide)

variable (X : Dev nD → In F)

/-- Paid to `p`'s barrier by the ring peer that receives `p`'s copies in slot `k`: its slots, and that their cells are open. -/
def zGift (k : Fin 3) (p : Dev nD) : sProp 𝕄 :=
  bigSep Finset.univ fun g : Fin 4 =>
    iprop((∃ f, rzPts (F := F) (zPeer k.rev p) k g f) ∗ reached ER (dCell 1 g k (zPeer k.rev p)) 0)
/-- Paid to `p`'s barrier by the plane peer that receives `p`'s copies in slot `s`. -/
def xyGift (s : Fin 3) (p : Dev nD) : sProp 𝕄 :=
  bigSep Finset.univ fun g : Fin 4 =>
    iprop((∃ f, rxPts (F := F) (xyPeer s p) s g f) ∗ reached ER (dCell 3 g s (xyPeer s p)) 0)

/-- What barrier signal `i` brings device `p`. -/
def barPay (i : Fin 6) (p : Dev nD) : sProp 𝕄 := match i with
  | 0 => zGift 0 p | 1 => zGift 1 p | 2 => zGift 2 p
  | 3 => xyGift 0 p | 4 => xyGift 1 p | 5 => xyGift 2 p

/-- What a copy brings device `c`: the source back, or the slot filled. -/
def cellPay (t g : Fin 4) (k : Fin 3) (c : Dev nD) : sProp 𝕄 := match t with
  | 0 => szPts c k g (szF X c)
  | 1 => rzPts c k g (rzF X c)
  | 2 => sxPts c (shares3 fullShare k) g (sxF X c)
  | 3 => rxPts c k g (rxF X c)

/-- The duties of a semaphore. -/
def dutiesOf : Role → Finset (Fin 6)
  | .bar => Finset.univ
  | .cell _ _ _ => {0}
  | .other => ∅
/-- What each unit credits. -/
def amountOf : Role → ℕ
  | .bar => 1
  | _ => N
/-- What comes with a duty. -/
def payOf (c : Dev nD) (i : Fin 6) : Role → sProp 𝕄
  | .bar => barPay i c
  | .cell t g k => cellPay X t g k c
  | .other => iprop(emp)

/-- One round: six units at every barrier, one copy at every other cell. -/
def Rd : Rounds.Schedule (GSem nD τ sig) (Fin 6) 𝕄 where
  duties g r := if r = 0 ∧ g.1.2 = .tc then dutiesOf (role g.2) else ∅
  unitless _ := False
  amount g _ _ := amountOf (role g.2)
  payload g _ i := payOf X g.1.1 i (role g.2)
  amount_pos g _ _ _ := by
    unfold amountOf
    split
    · exact Nat.one_pos
    · exact N_pos

instance zGift_storable (k : Fin 3) (p : Dev nD) : BI.Storable (upEmb : UEmb _ 𝕄) (zGift (F := F) k p) := by
  unfold zGift rzPts; infer_instance
instance xyGift_storable (s : Fin 3) (p : Dev nD) : BI.Storable (upEmb : UEmb _ 𝕄) (xyGift (F := F) s p) := by
  unfold xyGift rxPts; infer_instance
instance barPay_storable (i : Fin 6) (p : Dev nD) : BI.Storable (upEmb : UEmb _ 𝕄) (barPay (F := F) i p) := by
  unfold barPay; split <;> infer_instance
instance cellPay_storable (t g : Fin 4) (k : Fin 3) (c : Dev nD) : BI.Storable (upEmb : UEmb _ 𝕄) (cellPay X t g k c) := by
  unfold cellPay szPts rzPts sxPts rxPts; split <;> infer_instance
instance Rd_payload_storable (g : GSem nD τ sig) (r : ℕ) (d : Fin 6) :
    BI.Storable (upEmb : UEmb _ 𝕄) ((Rd X).payload g r d) := by
  show BI.Storable upEmb (payOf X g.1.1 d (role g.2))
  unfold payOf; split <;> infer_instance

/-! ## The schedule's tables -/

section Tables

variable (c : Dev nD) (t g : Fin 4) (k : Fin 3)

theorem duties_bar : (Rd X).duties (barCell c) 0 = Finset.univ := by
  dsimp only [Rd]; exact if_pos ⟨rfl, rfl⟩
theorem duties_cell : (Rd X).duties (dCell t g k c) 0 = {0} := by
  dsimp only [Rd]
  rw [if_pos ⟨rfl, rfl⟩, role_dS]; rfl
/-- No later round has a duty. -/
theorem duties_later (x : GSem nD τ sig) : ∀ r, 1 ≤ r → (Rd X).duties x r = ∅ :=
  fun r hr => by dsimp only [Rd]; exact if_neg fun h => absurd h.1 (by omega)

theorem amount_bar (i : Fin 6) : (Rd X).amount (barCell c) 0 i = 1 := rfl
theorem amount_cell (i : Fin 6) : (Rd X).amount (dCell t g k c) 0 i = N := by
  show amountOf (role (.dma (dS t g k))) = _
  rw [role_dS]; rfl

theorem payload_bar (i : Fin 6) : (Rd X).payload (barCell c) 0 i = barPay i c := rfl
theorem payload_cell (i : Fin 6) : (Rd X).payload (dCell t g k c) 0 i = cellPay X t g k c := by
  show payOf X c i (role (.dma (dS t g k))) = _
  rw [role_dS]; rfl

theorem expect_bar : (Rd X).expect (barCell c) 0 = 6 := by
  unfold Schedule.expect Schedule.amountOf
  rw [duties_bar, Finset.sum_congr rfl fun i _ => amount_bar X c i]; rfl
theorem expect_cell : (Rd X).expect (dCell t g k c) 0 = N := by
  unfold Schedule.expect Schedule.amountOf
  rw [duties_cell, Finset.sum_singleton, amount_cell]

/-- All that comes with a barrier's round. -/
theorem rest_bar : bigSep ((Rd X).duties (barCell c) 0 \ ∅) (fun i => (Rd X).payload (barCell c) 0 i)
    = bigSep Finset.univ fun i => barPay (F := F) i c := by
  rw [Finset.sdiff_empty, duties_bar]; rfl
/-- All that comes with a copy. -/
theorem rest_cell : bigSep ((Rd X).duties (dCell t g k c) 0 \ ∅) (fun i => (Rd X).payload (dCell t g k c) 0 i)
    = cellPay X t g k c := by
  rw [Finset.sdiff_empty, duties_cell, bigSep_singleton, payload_cell]

end Tables

/-! ## What is owed, and the levels -/

/-- Only the TensorCores' cells are waited on. -/
def L (x : GSem nD τ sig) : Finset Unit := if x.1.2 = .tc then {()} else ∅
/-- The level of a semaphore: the pipeline's below the barrier, the barrier below the copies, in the order of the arrays. -/
def lvOf : Role → ℕ
  | .bar => 1
  | .cell t _ _ => 2 + t.val
  | .other => 0
/-- The level of a cell. -/
def lv (x : GSem nD τ sig) (_ : Unit) : ℕ := lvOf (role x.2)

theorem L_of_ne (x : GSem nD τ sig) (h : x.1.2 ≠ .tc) : L x = ∅ := if_neg h
theorem L_tc (c : Dev nD) (sm : SemLoc sig) : L ((c : Thread nD τ), sm) = {()} := if_pos rfl
theorem lv_cell (t g : Fin 4) (k : Fin 3) (c : Dev nD) (u : Unit) : lv (dCell t g k c) u = 2 + t.val := by
  show lvOf (role (.dma (dS t g k))) = _
  rw [role_dS]; rfl
theorem lv_bar (c : Dev nD) (u : Unit) : lv (barCell c) u = 1 := rfl

/-- A list's debts over a base debt. -/
def owing {ι : Type} (f : ι → CellTallies nD τ sig Unit) (R : CellTallies nD τ sig Unit) : List ι → CellTallies nD τ sig Unit
  | [] => R
  | i :: l => owing f R l + f i

/-- Every debt is to a cell of level above `n`. -/
def Above (n : ℕ) (O : CellTallies nD τ sig Unit) : Prop := ∀ x u, 0 < O x u → u ∈ L x ∧ n < lv x u

theorem Above.zero (n : ℕ) : Above n 0 := fun _ _ h => absurd h (Nat.lt_irrefl 0)
theorem Above.tally {n : ℕ} (c : Dev nD) (sm : SemLoc sig) (a : ℕ) (h : n < lv ((c : Thread nD τ), sm) ()) :
    Above n (tallyAt ((c : Thread nD τ), sm) () a) := fun x u hx => by
  rw [tallyAt_apply] at hx
  split at hx
  · next e => obtain ⟨rfl, rfl⟩ := e; exact ⟨by rw [L_tc]; exact Finset.mem_singleton_self _, h⟩
  · exact absurd hx (Nat.lt_irrefl 0)
theorem Above.owing {n : ℕ} {ι : Type} {f : ι → CellTallies nD τ sig Unit} {R : CellTallies nD τ sig Unit}
    (hf : ∀ i, Above n (f i)) (hR : Above n R) : ∀ l, Above n (owing f R l)
  | [] => hR
  | i :: l => fun x u hx => by
      have hx : 0 < (Talk.owing f R l + f i) x u := hx
      rw [Pi.add_apply, Finsupp.add_apply] at hx
      rcases Nat.add_pos_iff_pos_or_pos.mp hx with h | h
      · exact Above.owing hf hR l x u h
      · exact hf i x u h
theorem Above.mono {n n' : ℕ} (h : n' ≤ n) {O : CellTallies nD τ sig Unit} (hO : Above n O) : Above n' O :=
  fun x u hx => ⟨(hO x u hx).1, h.trans_lt (hO x u hx).2⟩

/-- A cell may be waited on while only debts above its level are owed. -/
theorem mayWait (c : Dev nD) (sm : SemLoc sig) (O : CellTallies nD τ sig Unit)
    (hO : Above (lv ((c : Thread nD τ), sm) ()) O) :
    (levAts L lv : sProp 𝕄) ⊢ MayWait (c : Thread nD τ) sm () O :=
  MayOwe.of_cut (L := L) (lev := lv) (lv ((c : Thread nD τ), sm) ())
    (fun p hp => by rw [Finset.mem_singleton.mp hp, L_tc]; exact Finset.mem_singleton_self _)
    (fun x u hx => (hO x u hx).1)
    (fun p hp => by rw [Finset.mem_singleton.mp hp])
    (fun x u hx => (hO x u hx).2)

/-- The debt of barrier signal `i`. -/
abbrev fB (c : Dev nD) (i : Fin 6) : CellTallies nD τ sig Unit := tallyAt (barCell (bPeer i c)) () 1
/-- The debt of a ring copy. -/
abbrev fZ (c : Dev nD) (p : Fin 4 × Fin 3) : CellTallies nD τ sig Unit := tallyAt (dCell 1 p.1 p.2.rev (zPeer p.2 c)) () N
/-- The debt of a plane copy. -/
abbrev fX (c : Dev nD) (g : Fin 4) (s : Fin 3) : CellTallies nD τ sig Unit := tallyAt (dCell 3 g s (xyPeer s c)) () N

/-- The debts of the plane copies of the segments still to come. -/
def owX (c : Dev nD) : List (Fin 4) → CellTallies nD τ sig Unit
  | [] => 0
  | g :: l => owing (fX c g) (owX c l) [0, 1, 2]
/-- The debts of the ring copies to come, and of all plane copies. -/
def owZ (c : Dev nD) (l : List (Fin 4 × Fin 3)) : CellTallies nD τ sig Unit := owing (fZ c) (owX c [0, 1, 2, 3]) l
/-- What a device owes at the start. -/
def O₀ (c : Dev nD) : CellTallies nD τ sig Unit := owing (fB c) (owZ c pairs) [0, 1, 2, 3, 4, 5]

theorem above_owX (c : Dev nD) : ∀ l, Above 4 (owX c l)
  | [] => Above.zero 4
  | g :: l => Above.owing (fun s => Above.tally _ _ _ (by rw [lv_cell]; decide)) (above_owX c l) _
theorem above_owZ (c : Dev nD) (l : List (Fin 4 × Fin 3)) : Above 2 (owZ c l) :=
  Above.owing (fun s => Above.tally _ _ _ (by rw [lv_cell]; decide)) ((above_owX c _).mono (by decide)) _
theorem above_O₀ (c : Dev nD) : Above 0 (O₀ c) :=
  Above.owing (fun s => Above.tally _ _ _ (by rw [lv_bar]; decide)) ((above_owZ c _).mono (by decide)) _

end Cert.KernelIdeal.Talk
-- ==== Proof.Ghost.lean ====
/- What every device may consult, the rule for a program's loops, and what a write through a view leaves. -/
module

public import proofs.«01_k».proof.Proof.Cells
public import Idealize.ShloMosaic.Lib.Pipeline.BigSepL

@[expose] public section

set_option maxRecDepth 16384

noncomputable section

namespace Cert.KernelIdeal.Talk

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (shares3 pointsTo_thirds)

variable {F : FTy → Type} [FloatOps F]

local notation "𝕄" => MT nD τ sig Unit (Elt F) ℕ UU ℕ

/-! ## The cells as one family -/

/-- A kernel semaphore's array, segment and slot. -/
abbrev Ix3 : Type := Fin 4 × Fin 4 × Fin 3

/-- The semaphore at an index. -/
abbrev osem (p : Ix3) : SemLoc sig := .dma (dS p.1 p.2.1 p.2.2)

theorem osem_inj : Function.Injective osem := fun p p' h => by
  have e := congrArg role h
  rw [role_dS, role_dS] at e
  injection e with e1 e2 e3
  exact Prod.ext e1 (Prod.ext e2 e3)
theorem osem_ne_bar (p : Ix3) : osem p ≠ .reg barS := fun h => by cases h

/-- The barrier cells. -/
def barEmb : Dev nD ↪ GSem nD τ sig := ⟨fun c => barCell c, fun _ _ h => congrArg (fun x : GSem nD τ sig => x.1.1) h⟩
/-- The copies' cells. -/
def scEmb : Dev nD × Ix3 ↪ GSem nD τ sig :=
  ⟨fun x => ((x.1 : Thread nD τ), osem x.2), fun _ _ h =>
    Prod.ext (congrArg (fun x : GSem nD τ sig => x.1.1) h) (osem_inj (congrArg Prod.snd h))⟩
abbrev barCells : Finset (GSem nD τ sig) := Finset.univ.map barEmb
abbrev scCells : Finset (GSem nD τ sig) := Finset.univ.map scEmb

theorem bar_mem (c : Dev nD) : barCell c ∈ (barCells ∪ scCells : Finset (GSem nD τ sig)) :=
  Finset.mem_union_left _ (Finset.mem_map_of_mem barEmb (Finset.mem_univ c))
theorem cell_mem (t g : Fin 4) (k : Fin 3) (c : Dev nD) : dCell t g k c ∈ (barCells ∪ scCells : Finset (GSem nD τ sig)) :=
  Finset.mem_union_right _ (Finset.mem_map_of_mem scEmb (Finset.mem_univ (c, (t, g, k))))

variable (X : Dev nD → In F)

/-- All the invariants, under one map of names, and that every barrier is at its round. -/
def records (κ : GSem nD τ sig → ℕ) : sProp 𝕄 :=
  iprop((bigSep (barCells ∪ scCells) fun x => cellInv ER (Rd X) (κ x) x) ∗ bigSep barCells fun x => reached ER x 0)

instance records_persistent (κ : GSem nD τ sig → ℕ) : BI.Persistent (records X κ) := by unfold records; infer_instance

/-- What device `c` may consult: the records, the levels, and that its own cells are open. -/
def ctx (κ : GSem nD τ sig → ℕ) (c : Dev nD) : sProp 𝕄 :=
  iprop(records X κ ∗ levAts L lv ∗ bigSep Finset.univ fun p : Ix3 => reached ER (dCell p.1 p.2.1 p.2.2 c) 0)

instance ctx_persistent (κ : GSem nD τ sig → ℕ) (c : Dev nD) : BI.Persistent (ctx X κ c) := by unfold ctx; infer_instance

section Consult

variable (κ : GSem nD τ sig → ℕ) (c : Dev nD)

theorem records_inv {x : GSem nD τ sig} (hx : x ∈ (barCells ∪ scCells : Finset (GSem nD τ sig))) :
    records X κ ⊢ cellInv ER (Rd X) (κ x) x := by
  have e : (bigSep (barCells ∪ scCells) fun x => (cellInv ER (Rd X) (κ x) x : sProp 𝕄)) ⊢ cellInv ER (Rd X) (κ x) x := bigSep_elim hx
  unfold records
  iintro ⟨H, -⟩
  iapply e; iexact H
theorem ctx_bar (d : Dev nD) : ctx X κ c ⊢ cellInv ER (Rd X) (κ (barCell d)) (barCell d) := by
  unfold ctx
  iintro ⟨H, -, -⟩
  iapply (records_inv X κ (bar_mem d)); iexact H
theorem ctx_cell (t g : Fin 4) (k : Fin 3) (d : Dev nD) :
    ctx X κ c ⊢ cellInv ER (Rd X) (κ (dCell t g k d)) (dCell t g k d) := by
  unfold ctx
  iintro ⟨H, -, -⟩
  iapply (records_inv X κ (cell_mem t g k d)); iexact H
theorem ctx_barR (d : Dev nD) : ctx X κ c ⊢ (reached ER (barCell d) 0 : sProp 𝕄) := by
  have e : (bigSep barCells fun x => (reached ER x 0 : sProp 𝕄)) ⊢ reached ER (barCell d) 0 :=
    bigSep_elim (Finset.mem_map_of_mem barEmb (Finset.mem_univ d))
  unfold ctx records
  iintro ⟨⟨-, H⟩, -, -⟩
  iapply e; iexact H
theorem ctx_cellR (t g : Fin 4) (k : Fin 3) : ctx X κ c ⊢ (reached ER (dCell t g k c) 0 : sProp 𝕄) := by
  have e : (bigSep Finset.univ fun p : Ix3 => (reached ER (dCell p.1 p.2.1 p.2.2 c) 0 : sProp 𝕄)) ⊢ reached ER (dCell t g k c) 0 :=
    bigSep_elim (Finset.mem_univ (t, g, k))
  unfold ctx
  iintro ⟨-, -, H⟩
  iapply e; iexact H
theorem ctx_lev : ctx X κ c ⊢ (levAts L lv : sProp 𝕄) := by
  unfold ctx
  iintro ⟨-, H, -⟩
  iexact H

end Consult

/-- What is consulted, and the debts. -/
def st (κ : GSem nD τ sig → ℕ) (c : Dev nD) (O : CellTallies nD τ sig Unit) : sProp 𝕄 :=
  iprop(ctx X κ c ∗ ∃ W, owes (c : Thread nD τ) O W)

/-! ## Loops -/

/-- No variant is used. -/
abbrev 𝒱₀ : Variants := Variants.none

/-- The rule for a loop over a list: what each member takes turns into what each member leaves, under an invariant of the
    members still to come. -/
theorem wp_each {ι : Type} (c : Dev nD) (f : ι → Pg F PUnit) (Inv : List ι → sProp 𝕄) (A B : ι → sProp 𝕄)
    (h : ∀ i l (Q : PUnit → sProp 𝕄), iprop(Inv (i :: l) ∗ A i ∗ ((Inv l ∗ B i) -∗ Q ⟨⟩))
      ⊢ wp frame (wpE (defs₀ (F := F)) 𝒱₀ c none) Set.univ (f i) Q)
    (k : Pg F PUnit) (Q : PUnit → sProp 𝕄) : ∀ l, iprop(Inv l ∗ bigSepL l A ∗ ((Inv [] ∗ bigSepL l B) -∗
        wp frame (wpE (defs₀ (F := F)) 𝒱₀ c none) Set.univ k Q))
      ⊢ wp frame (wpE (defs₀ (F := F)) 𝒱₀ c none) Set.univ (each f l k) Q
  | [] => by
      unfold each
      iintro ⟨HI, -, Hk⟩
      iapply Hk
      isplitl [HI]; · iexact HI
      rw [show bigSepL [] B = (BI.emp : sProp 𝕄) from rfl]
      iempintro
  | i :: l => by
      unfold each
      rw [wp_bind, bigSepL_cons', bigSepL_cons']
      have ih := wp_each c f Inv A B h k Q l
      iintro ⟨HI, ⟨Ha, HA⟩, Hk⟩
      iapply (h i l)
      isplitl [HI]; · iexact HI
      isplitl [Ha]; · iexact Ha
      iintro ⟨HI, Hb⟩
      iapply ih
      isplitl [HI]; · iexact HI
      isplitl [HA]; · iexact HA
      iintro ⟨HI, HB⟩
      iapply Hk
      isplitl [HI]; · iexact HI
      isplitl [Hb]; · iexact Hb
      iexact HB

/-! ## Writes -/

/-- A buffer written through a view is, on the view's elements, any contents that read there what was written. -/
theorem write_eq_on {sp : Space} {s : Shape} {e : EltTy} (v : View sig .tc sp s e) (f F' : v.ty.Contents (Elt F)) (w : s.Idx → Elt F e)
    (h : ∀ x, v.read (Elt F) F' x = w x) (i : v.ty.Idx) (hi : i ∈ v.set) :
    v.write (Elt F) f w Finset.univ i = F' i := by
  obtain ⟨x, -, rfl⟩ := Finset.mem_map.mp hi
  rw [View.write_emb_of_mem _ _ (Finset.mem_univ x), ← h x, View.read_apply, cast_cast, cast_eq]

end Cert.KernelIdeal.Talk
-- ==== Proof.Steps.lean ====
/- Each kind of step: what it takes, and what it leaves. -/
module

public import proofs.«01_k».proof.Proof.Ghost

@[expose] public section

set_option maxRecDepth 16384

noncomputable section

namespace Cert.KernelIdeal.Talk

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Ring (shares3 pointsTo_thirds)

variable {F : FTy → Type} [FloatOps F]

local notation "𝕄" => MT nD τ sig Unit (Elt F) ℕ UU ℕ

variable (X : Dev nD → In F) (κ : GSem nD τ sig → ℕ) (c : Dev nD)

/-! ## The barrier -/

/-- A signal pays one unit of a peer's barrier, with the slots that peer is to fill. -/
theorem signal_step (i : Fin 6) (O : CellTallies nD τ sig Unit) (Q : PUnit → sProp 𝕄) :
    iprop(st X κ c (O + fB c i) ∗ (dutyTok ER (barCell (bPeer i c)) 0 i ∗ barPay i (bPeer i c)) ∗ ((st X κ c O ∗ emp) -∗ Q ⟨⟩))
      ⊢ wp frame (wpE (defs₀ (F := F)) 𝒱₀ c none) Set.univ (signal c i) Q := by
  unfold signal semSignalWord st
  rw [barDev_eq]
  iintro ⟨⟨#Hctx, ⟨%W, HO⟩⟩, ⟨Ht, Hp⟩, Hk⟩
  iapply (Rounds.wp_signal 𝒱₀ ER (Rd X) (c : Thread nD τ) none (dst := (bPeer i c : Thread nD τ)) (sem := barS) (r := 0) (d := i)
      (κ := κ (barCell (bPeer i c))) (by rw [duties_bar]; exact Finset.mem_univ _) (amount_bar X (bPeer i c) i) () O rfl) $$ [HO Ht Hp]
  · isplitr; · iapply (ctx_bar X κ c (bPeer i c)); iexact Hctx
    isplitl [HO]; · iexact HO
    isplitl [Ht]; · iexact Ht
    isplitl [Hp]; · rw [payload_bar]; iexact Hp
    iapply (ctx_barR X κ c (bPeer i c)); iexact Hctx
  iintro HO
  rw [wp_ret]
  imodintro
  iapply Hk
  isplitl [HO]
  · isplitr; · iexact Hctx
    iexists W; iexact HO
  iempintro

/-- The wait at the barrier brings all six peers' slots. -/
theorem barrier_step (O : CellTallies nD τ sig Unit) (hO : Above 1 O) (Q : PUnit → sProp 𝕄) :
    iprop(st X κ c O ∗ (cred (tallyAt (barCell c) () 6) ∗ atPos ER (barCell c) 0 ∅ 0)
        ∗ ((st X κ c O ∗ atPos ER (barCell c) 1 ∅ 0 ∗ bigSep Finset.univ fun i => barPay i c) -∗ Q ⟨⟩))
      ⊢ wp frame (wpE (defs₀ (F := F)) 𝒱₀ c none) Set.univ (semWaitWord barS 6#32) Q := by
  unfold semWaitWord st
  iintro ⟨⟨#Hctx, ⟨%W, HO⟩⟩, ⟨Hc, Hat⟩, Hk⟩
  ihave #Hlev := (ctx_lev X κ c) $$ Hctx
  iapply (Rounds.wp_wait_rest_token 𝒱₀ ER (Rd X) (c : Thread nD τ) none (κ := κ (barCell c))
      (wpE_semWait_eq 𝒱₀ (c : Thread nD τ) none Set.univ) (Set.mem_univ _) () (O := O) (W := W) (R := 0) (m := 0) (T := ∅)
      ((Nat.zero_add 6).trans (expect_bar X c).symm)) $$ [Hc HO Hat]
  · isplitr; · iapply (ctx_bar X κ c c); iexact Hctx
    isplitl [Hc]; · iexact Hc
    isplitl [HO]; · iexact HO
    isplitr
    · iapply (mayWait c (.reg barS) O hO)
      iexact Hlev
    iexact Hat
  iintro ⟨HO, Hat, -, Hpay⟩
  ihave Hp := (Entails.of_eq (rest_bar X c)) $$ Hpay
  rw [wp_ret]
  imodintro
  iapply Hk
  isplitl [HO]
  · isplitr; · iexact Hctx
    iexists _; iexact HO
  isplitl [Hat]; · iexact Hat
  iexact Hp

/-! ## Waits for copies -/

/-- A wait on a copy's cell brings what the copy pays. -/
theorem wait_step (t g : Fin 4) (k : Fin 3) (O : CellTallies nD τ sig Unit) (hO : Above (2 + t.val) O)
    {sp sp' : Space} {s s' : Shape} {e e' : EltTy} {src : Memref sig .tc sp' s' e'} {dst : Memref sig .tc sp s e}
    (hs : src.view.WordExact) (hd : dst.view.WordExact) (sm : DmaSem sig) (hsm : sm = dS t g k) (hN : dst.view.dmaCredit = N) (Q : PUnit → sProp 𝕄) :
    iprop(st X κ c O ∗ (cred (tallyAt (dCell t g k c) () N) ∗ atPos ER (dCell t g k c) 0 ∅ 0)
        ∗ ((st X κ c O ∗ (atPos ER (dCell t g k c) 1 ∅ 0 ∗ cellPay X t g k c)) -∗ Q ⟨⟩))
      ⊢ wp frame (wpE (defs₀ (F := F)) 𝒱₀ c none) Set.univ (Prog.lift (.waitDma2 sm src dst hs hd)) Q := by
  subst hsm
  unfold st Prog.lift
  iintro ⟨⟨#Hctx, ⟨%W, HO⟩⟩, ⟨Hc, Hat⟩, Hk⟩
  ihave #Hlev := (ctx_lev X κ c) $$ Hctx
  iapply (Rounds.wp_wait_rest_token 𝒱₀ ER (Rd X) (c : Thread nD τ) none (κ := κ (dCell t g k c))
      (wpE_waitDma2_eq (src := src) (dst := dst) 𝒱₀ (c : Thread nD τ) none Set.univ) (Set.mem_univ _) () (O := O) (W := W) (R := 0) (m := 0) (T := ∅)
      ((Nat.zero_add _).trans (hN.trans (expect_cell X c t g k).symm))) $$ [Hc HO Hat]
  · isplitr; · iapply (ctx_cell X κ c t g k c); iexact Hctx
    isplitl [Hc]; · rw [hN]; iexact Hc
    isplitl [HO]; · iexact HO
    isplitr
    · iapply (mayWait c (.dma (dS t g k)) O (by rw [lv_cell]; exact hO))
      iexact Hlev
    iexact Hat
  iintro ⟨HO, Hat, -, Hpay⟩
  ihave Hp := (Entails.of_eq (rest_cell X c t g k)) $$ Hpay
  rw [wp_ret]
  imodintro
  iapply Hk
  isplitl [HO]
  · isplitr; · iexact Hctx
    iexists _; iexact HO
  isplitl [Hat]; · iexact Hat
  iexact Hp

/-! ## Loads and stores -/

/-- A rectangle of a whole buffer is the rectangle. -/
theorem access_set (b : Ref sig .tc) (r : Rect b.ty.shape) : ((Memref.whole b : Memref sig .tc _ _ _).access r).set = r.set :=
  View.set_slice_whole b r

/-- A store through a rectangle leaves there any contents that read what was stored. -/
theorem store_step {cs : CoreSpace} {s : Shape} {e : EltTy} {m : Memref sig .tc cs s e} {r : Rect s} {w : r.shape.Idx → Elt F e}
    {hx : (m.access r).Stores Finset.univ} {hm : (Finset.univ : Finset r.shape.Idx) = Finset.univ ∨ ∀ a, r.stride a = 1}
    {k : PUnit → Pg F PUnit} {f : Buf (Elt F) ((m.access r).loc (c : Thread nD τ))}
    (F' : Buf (Elt F) ((m.access r).loc (c : Thread nD τ))) (h : ∀ x, (m.access r).read (Elt F) F' x = w x) (Q : PUnit → sProp 𝕄) :
    ((m.access r).loc (c : Thread nD τ) ↦[(m.access r).set]{fullShare} f)
      ⊢ iprop((((m.access r).loc (c : Thread nD τ) ↦[(m.access r).set]{fullShare} F') -∗ wp frame (wpE (defs₀ (F := F)) 𝒱₀ c none) Set.univ (k ⟨⟩) Q)
        -∗ wp frame (wpE (defs₀ (F := F)) 𝒱₀ c none) Set.univ (.op (.store m r w Finset.univ hx hm) k) Q) := by
  iintro H Hk
  iapply (wp_store 𝒱₀ (c : Thread nD τ) none Set.univ (m := m) (r := r) (w := w) (Mk := Finset.univ) (hx := hx) (hm := hm)
    (S := (m.access r).set) (f := f) (Finset.Subset.refl _)) $$ H
  iintro H
  iapply Hk
  iapply (Entails.of_eq (pointsTo_congr (fun i hi => write_eq_on (m.access r) f F' w h i hi))) $$ H

/-- The block staged for ring slot `j`. -/
abbrev stageR (j : Fin 3) : Rect S4x512x128 :=
  Rect.unit (s := S4x512x128) (k0_off1 c (BitVec.ofNat 32 (1 + j.val))) S1x512x128.size (k0_off1_inb c j)
/-- The device's own block of segment `g`. -/
abbrev ownR (g : Fin 4) : Rect S4x512x128 :=
  Rect.unit (s := S4x512x128) (ownOff g c) S1x128x128.size (ownOff_inb g c)

/-- A slab of the slabs to send. -/
def slabPts (k : Fin 3) (f : S3x512x128.Idx → Elt F .bf16) : sProp 𝕄 :=
  ((c : Thread nD τ).loc cc0_scratch0) ↦[(slabR k).set]{fullShare} f

/-- Staging fills a slab from the input. -/
theorem stage_step (j : Fin 3) (Q : PUnit → sProp 𝕄) :
    iprop(xPts c (X c) ∗ (∃ f, slabPts c j f) ∗ ((xPts c (X c) ∗ slabPts c j (szF X c)) -∗ Q ⟨⟩))
      ⊢ wp frame (wpE (defs₀ (F := F)) 𝒱₀ c none) Set.univ (stage c j) Q := by
  unfold stage xPts slabPts
  simp only [Prog.lift, Prog.bind_op, Prog.bind_ret]
  rw [← access_set cc0_scratch0 (slabR j)]
  iintro ⟨Hx, ⟨%f, Hs⟩, Hk⟩
  iapply (wp_load_rect 𝒱₀ (c : Thread nD τ) none Set.univ (m := xM) (r := stageR c j) (S := Finset.univ) (f := X c) (Finset.subset_univ _)) $$ Hx
  iintro Hx
  iapply (wp_load_rect 𝒱₀ (c : Thread nD τ) none Set.univ (m := szM) (r := slabR j) (S := (szM.access (slabR j)).set) (f := f) (Finset.Subset.refl _)) $$ Hs
  iintro Hs
  iapply (store_step c (m := szM) (r := slabR j) (szF X c) (fun x => szF_slab X c j x)) $$ Hs
  iintro Hs
  rw [wp_ret]
  imodintro
  iapply Hk
  isplitl [Hx] <;> iassumption

/-! ## Copies -/

/-- A slot of each three-slab buffer, and the rows of a segment, as sets. -/
theorem sz_set (k : Fin 3) (g : Fin 4) : (slot szM k g).view.set = (slotR k g).set :=
  (View.set_reshape _ _).trans (View.set_slice_whole cc0_scratch0 (slotR k g))
theorem rz_set (k : Fin 3) (g : Fin 4) : (slot rzM k g).view.set = (slotR k g).set :=
  (View.set_reshape _ _).trans (View.set_slice_whole cc0_scratch1 (slotR k g))
theorem rx_set (k : Fin 3) (g : Fin 4) : (slot rxM k g).view.set = (slotR k g).set :=
  (View.set_reshape _ _).trans (View.set_slice_whole cc0_scratch3 (slotR k g))
theorem rows_set (g : Fin 4) : (rows g).view.set = (rowsR g).set :=
  View.set_slice_whole cc0_scratch2 (rowsR g)

/-- What a ring copy writes. -/
theorem zSent (g : Fin 4) (j : Fin 3) (x : S128x128.Idx) :
    (slot rzM j.rev g).view.read (Elt F) (rzF X (zPeer j c)) x = (slot szM j g).view.read (Elt F) (szF X c) x :=
  rzF_slot X c g j (Shape.reshapeEquiv (Shape.Squeezes.numel_eq squeezes_S1x128x128_S128x128) x)

/-- A slot's index as a matrix's, the leading unit put back. -/
theorem unsqueeze (x : S128x128.Idx) :
    ix2 (n0 := 128) (n1 := 128) (Shape.reshapeEquiv (Shape.Squeezes.numel_eq squeezes_S1x128x128_S128x128) x 1)
      (Shape.reshapeEquiv (Shape.Squeezes.numel_eq squeezes_S1x128x128_S128x128) x 2) = x := by
  have h := reshapeEquiv_ix2_1ab (a := 128) (b := 128) (Shape.Squeezes.numel_eq squeezes_S1x128x128_S128x128) (x 0) (x 1)
  have hx : ix2 (n0 := 128) (n1 := 128) (x 0) (x 1) = x := (eq_ix2 (n0 := 128) (n1 := 128) x).symm
  rw [hx] at h
  rw [h]
  exact hx

/-- What a plane copy writes. -/
theorem xySent (g : Fin 4) (s : Fin 3) (x : S128x128.Idx) :
    (slot rxM s g).view.read (Elt F) (rxF X (xyPeer s c)) x = (rows g).view.read (Elt F) (sxF X c) x :=
  (rxF_slot X c g s (Shape.reshapeEquiv (Shape.Squeezes.numel_eq squeezes_S1x128x128_S128x128) x)).trans
    (congrArg (fun y => sxF X c ((rowsR g).emb y)) (unsqueeze x))

/-- A copy to a peer takes its source and the peer's slot, and leaves the credit of its leaving. -/
theorem send_step (t t' g : Fin 4) (k k' : Fin 3) (d : Dev nD) (src dst : Memref sig .tc .vmem S128x128 .bf16)
    (tgt : Dev nD) (htgt : tgt = d) (s s' : DmaSem sig) (hs : s = dS t g k) (hs' : s' = dS t' g k')
    {hsc : dst.view.ref.isScScratch = false} (hsrc : src.view.WordExact) (hdst : dst.view.WordExact)
    (hsem : DmaTarget.Typed (nD := nD) (τ := τ) .vmem (.dma s') (.remote (Dev.tc tgt) dst (.dma s) hsc)) (hN : dst.view.dmaCredit = N)
    (q : PosShare TreeShare) (fs : Buf (Elt F) (src.view.loc (c : Thread nD τ))) (fd : Buf (Elt F) (dst.view.loc (d : Thread nD τ)))
    (hp : (src.view.loc (c : Thread nD τ) ↦[src.view.set]{q} fs : sProp 𝕄) ⊢ cellPay X t g k c)
    (hp' : (dst.view.loc (d : Thread nD τ) ↦[dst.view.set]{fullShare} dst.view.write (Elt F) fd (src.view.read (Elt F) fs) Finset.univ : sProp 𝕄)
      ⊢ cellPay X t' g k' d)
    (O : CellTallies nD τ sig Unit) (Q : PUnit → sProp 𝕄) :
    iprop(st X κ c (O + tallyAt (dCell t' g k' d) () N)
        ∗ ((src.view.loc (c : Thread nD τ) ↦[src.view.set]{q} fs) ∗ (dst.view.loc (d : Thread nD τ) ↦[dst.view.set]{fullShare} fd)
            ∗ reached ER (dCell t' g k' d) 0 ∗ dutyTok ER (dCell t g k c) 0 0 ∗ dutyTok ER (dCell t' g k' d) 0 0)
        ∗ ((st X κ c O ∗ cred (tallyAt (dCell t g k c) () N)) -∗ Q ⟨⟩))
      ⊢ wp frame (wpE (defs₀ (F := F)) 𝒱₀ c none) Set.univ
          (Prog.lift (.enqueueDma src (.remote (Dev.tc tgt) dst (.dma s) hsc) (.dma s') hsrc hdst hsem)) Q := by
  subst htgt hs hs'
  unfold st Prog.lift
  iintro ⟨⟨#Hctx, ⟨%W, HO⟩⟩, ⟨Hs, Hd, #Hr, Ht, Ht'⟩, Hk⟩
  iapply (Rounds.wp_send_pointsTo 𝒱₀ ER (Rd X) (c : Thread nD τ) none (c' := (tgt : Thread nD τ)) (src := src) (dst := dst)
      (sS := .dma (dS t g k)) (sem := .dma (dS t' g k')) (q := q) (fs := fs) (κ₁ := κ (dCell t g k c)) (κ₂ := κ (dCell t' g k' tgt))
      (r₁ := 0) (r₂ := 0) (d₁ := 0) (d₂ := 0) (fd := fd)
      (by rw [duties_cell]; exact Finset.mem_singleton_self _) (by rw [duties_cell]; exact Finset.mem_singleton_self _)
      () () N hN (amount_cell X c t g k 0) (amount_cell X tgt t' g k' 0) O rfl (W := W)
      (by rw [payload_cell]; exact hp) (by rw [payload_cell]; exact hp')) $$ [Hs Hd HO Ht Ht']
  · isplitr; · iapply (ctx_cell X κ c t g k c); iexact Hctx
    isplitr; · iapply (ctx_cell X κ c t' g k' tgt); iexact Hctx
    isplitl [Hs]; · iexact Hs
    isplitl [Hd]; · iexact Hd
    isplitl [HO]; · iexact HO
    isplitl [Ht]; · iexact Ht
    isplitr; · iapply (ctx_cellR X κ c t g k); iexact Hctx
    isplitl [Ht']; · iexact Ht'
    iexact Hr
  iintro ⟨Hc, HO⟩
  rw [wp_ret]
  imodintro
  iapply Hk
  isplitl [HO]
  · isplitr; · iexact Hctx
    iexists _; iexact HO
  iexact Hc

/-- What a ring copy takes: the slab's slot, the peer's slot, and the two tokens it pays with. -/
def zTake (p : Fin 4 × Fin 3) : sProp 𝕄 :=
  iprop(szPts c p.2 p.1 (szF X c)
    ∗ ((∃ f, rzPts (F := F) (zPeer p.2 c) p.2.rev p.1 f) ∗ reached ER (dCell 1 p.1 p.2.rev (zPeer p.2 c)) 0)
    ∗ dutyTok ER (dCell 0 p.1 p.2 c) 0 0 ∗ dutyTok ER (dCell 1 p.1 p.2.rev (zPeer p.2 c)) 0 0)

/-- A ring copy. -/
theorem zSend_step (p : Fin 4 × Fin 3) (O : CellTallies nD τ sig Unit) (Q : PUnit → sProp 𝕄) :
    iprop(st X κ c (O + fZ c p) ∗ zTake X c p ∗ ((st X κ c O ∗ cred (tallyAt (dCell 0 p.1 p.2 c) () N)) -∗ Q ⟨⟩))
      ⊢ wp frame (wpE (defs₀ (F := F)) 𝒱₀ c none) Set.univ (zSend c p.1 p.2) Q := by
  obtain ⟨g, j⟩ := p
  unfold zTake szPts rzPts zSend
  iintro ⟨Hst, ⟨Hs, ⟨⟨%f, Hd⟩, Hr⟩, Ht, Ht'⟩, Hk⟩
  iapply (send_step X κ c 0 1 g j j.rev (zPeer j c) (slot szM j g) (slot rzM j.rev g) (zDev g j c) (zDev_eq g j c) _ _
    (semAt_0 g j) (semAt_1 g j.rev) _ _ _ rfl fullShare (szF X c) f
    (by rw [sz_set]; exact BI.Entails.refl _)
    (by
      show _ ⊢ rzPts _ _ _ _
      unfold rzPts
      rw [← rz_set]
      exact Entails.of_eq (pointsTo_congr fun i hi => write_eq_on (slot rzM j.rev g).view f _ _ (zSent X c g j) i hi)) O Q)
  isplitl [Hst]; · iexact Hst
  isplitr [Hk]
  · rw [sz_set, rz_set]
    isplitl [Hs]; · iexact Hs
    isplitl [Hd]; · iexact Hd
    isplitl [Hr]; · iexact Hr
    isplitl [Ht]; · iexact Ht
    iexact Ht'
  iexact Hk

/-- The peer's slot for a plane copy, and the two tokens it pays with. -/
def xyFly (g : Fin 4) (s : Fin 3) : sProp 𝕄 :=
  iprop(((∃ f, rxPts (F := F) (xyPeer s c) s g f) ∗ reached ER (dCell 3 g s (xyPeer s c)) 0)
    ∗ dutyTok ER (dCell 2 g s c) 0 0 ∗ dutyTok ER (dCell 3 g s (xyPeer s c)) 0 0)

/-- What a plane copy takes: a share of the sum's rows besides. -/
def xyTake (g : Fin 4) (s : Fin 3) : sProp 𝕄 :=
  iprop(sxPts c (shares3 fullShare s) g (sxF X c) ∗ xyFly c g s)

/-- A plane copy. -/
theorem xySend_step (g : Fin 4) (s : Fin 3) (O : CellTallies nD τ sig Unit) (Q : PUnit → sProp 𝕄) :
    iprop(st X κ c (O + fX c g s) ∗ xyTake X c g s ∗ ((st X κ c O ∗ cred (tallyAt (dCell 2 g s c) () N)) -∗ Q ⟨⟩))
      ⊢ wp frame (wpE (defs₀ (F := F)) 𝒱₀ c none) Set.univ (xySend c g s) Q := by
  unfold xyTake xyFly sxPts rxPts xySend
  iintro ⟨Hst, ⟨Hs, ⟨⟨%f, Hd⟩, Hr⟩, Ht, Ht'⟩, Hk⟩
  iapply (send_step X κ c 2 3 g s s (xyPeer s c) (rows g) (slot rxM s g) (xyDev g s c) (xyDev_eq g s c) _ _
    (semAt_2 g s) (semAt_3 g s) _ _ _ rfl (shares3 fullShare s) (sxF X c) f
    (by rw [rows_set]; exact BI.Entails.refl _)
    (by
      show _ ⊢ rxPts _ _ _ _
      unfold rxPts
      rw [← rx_set]
      exact Entails.of_eq (pointsTo_congr fun i hi => write_eq_on (slot rxM s g).view f _ _ (xySent X c g s) i hi)) O Q)
  isplitl [Hst]; · iexact Hst
  isplitr [Hk]
  · rw [rows_set, rx_set]
    isplitl [Hs]; · iexact Hs
    isplitl [Hd]; · iexact Hd
    isplitl [Hr]; · iexact Hr
    isplitl [Ht]; · iexact Ht
    iexact Ht'
  iexact Hk

end Cert.KernelIdeal.Talk
-- ==== Proof.Segment.lean ====
/- The work on one segment: the receipts along the ring, the sum and its copies, the receipts across the plane,
   and the waits for what has left. -/
module

public import proofs.«01_k».proof.Proof.Steps

@[expose] public section

set_option maxRecDepth 16384

noncomputable section

namespace Cert.KernelIdeal.Talk

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (shares3 pointsTo_thirds)

variable {F : FTy → Type} [FloatOps F]

local notation "𝕄" => MT nD τ sig Unit (Elt F) ℕ UU ℕ

/-! ## Families of three -/

/-- Three conjuncts as a list's. -/
theorem three_list (Φ : Fin 3 → sProp 𝕄) : bigSep Finset.univ Φ = bigSepL [0, 1, 2] Φ :=
  bigSep_univ_eq_bigSepL [0, 1, 2] (by decide) (by decide) Φ
/-- Three conjuncts as a list's, counted down. -/
theorem three_rev (Φ : Fin 3 → sProp 𝕄) : bigSep Finset.univ Φ = bigSepL [0, 1, 2] fun j => Φ (Fin.rev j) :=
  (bigSep_univ_equiv Fin.revPerm Φ).trans (three_list _)
/-- Three conjuncts, written out. -/
theorem three (Φ : Fin 3 → sProp 𝕄) : bigSep Finset.univ Φ ⊣⊢ iprop(Φ 0 ∗ Φ 1 ∗ Φ 2) := by
  rw [three_list, bigSepL_cons', bigSepL_cons', bigSepL_cons', show bigSepL [] Φ = (BI.emp : sProp 𝕄) from rfl]
  constructor
  · iintro ⟨H0, H1, H2, -⟩
    isplitl [H0]; · iexact H0
    isplitl [H1]; · iexact H1
    iexact H2
  · iintro ⟨H0, H1, H2⟩
    isplitl [H0]; · iexact H0
    isplitl [H1]; · iexact H1
    isplitl [H2]; · iexact H2
    iempintro

/-! ## Blocks of the result -/

/-- A rectangle at a block's offsets is the block. -/
theorem block_of_off (off : Fin 2 → Nat) (g q : Fin 4) (h : off = ![128 * g.val, 128 * q.val])
    (hb : ∀ a, off a + S128x128.size a ≤ S512x512.size a) :
    Rect.unit (s := S512x512) off S128x128.size hb = blockR g q := by
  subst h; rfl
/-- And its indices are the block's. -/
theorem emb_of_off (off : Fin 2 → Nat) (g q : Fin 4) (h : off = ![128 * g.val, 128 * q.val])
    (hb : ∀ a, off a + S128x128.size a ≤ S512x512.size a) (y : S128x128.Idx) :
    (Rect.unit (s := S512x512) off S128x128.size hb).emb y = (blockR g q).emb y := by
  subst h; rfl

variable (X : Dev nD → In F) (κ : GSem nD τ sig → ℕ) (c : Dev nD)

/-- The result's rectangle of the device's own sum of segment `g`. -/
abbrev sumR (g : Fin 4) : Rect S512x512 := Rect.unit (s := S512x512) (sumOff g c) S128x128.size (sumOff_inb g c)
/-- The result's rectangle of the sum received in slot `s`. -/
abbrev recR (g : Fin 4) (s : Fin 3) : Rect S512x512 := Rect.unit (s := S512x512) (recOff g s c) S128x128.size (recOff_inb g s c)

theorem sumR_set (g : Fin 4) : (oM.access (sumR c g)).set = (blockR g (qOf c)).set :=
  (access_set cc0_stg1_0 (sumR c g)).trans (congrArg (fun r : Rect S512x512 => r.set) (block_of_off _ g (qOf c) (sumOff_eq g c) _))
theorem recR_set (g : Fin 4) (s : Fin 3) : (oM.access (recR c g s)).set = (blockR g (qOf (xyPeer s c))).set :=
  (access_set cc0_stg1_0 (recR c g s)).trans (congrArg (fun r : Rect S512x512 => r.set) (block_of_off _ g (qOf (xyPeer s c)) (recOff_eq g s c) _))
theorem oF_sumR (g : Fin 4) (y : S128x128.Idx) : oF X c ((sumR c g).emb y) = accF X c g y :=
  (congrArg (oF X c) (emb_of_off _ g (qOf c) (sumOff_eq g c) _ y)).trans ((oF_block X c g (qOf c) y).trans (congrFun (outF_own X c g) y))
theorem oF_recR (g : Fin 4) (s : Fin 3) (y : S128x128.Idx) : oF X c ((recR c g s).emb y) = k0_pay14 (rxRd X c g s) y :=
  (congrArg (oF X c) (emb_of_off _ g (qOf (xyPeer s c)) (recOff_eq g s c) _ y)).trans
    ((oF_block X c g (qOf (xyPeer s c)) y).trans (congrFun (outF_rec X c g s) y))

/-! ## Receipts -/

/-- What each array's copies pay. -/
theorem pay_0 (g : Fin 4) (k : Fin 3) : cellPay X 0 g k c = szPts c k g (szF X c) := rfl
theorem pay_1 (g : Fin 4) (k : Fin 3) : cellPay X 1 g k c = rzPts c k g (rzF X c) := rfl
theorem pay_2 (g : Fin 4) (k : Fin 3) : cellPay X 2 g k c = sxPts c (shares3 fullShare k) g (sxF X c) := rfl
theorem pay_3 (g : Fin 4) (k : Fin 3) : cellPay X 3 g k c = rxPts c k g (rxF X c) := rfl

/-- A cell to wait on: its credit, and that nothing was taken from it. -/
def wait0 (t g : Fin 4) (k : Fin 3) : sProp 𝕄 :=
  iprop(cred (tallyAt (dCell t g k c) () N) ∗ atPos ER (dCell t g k c) 0 ∅ 0)
/-- A cell waited on, and what its copy paid. -/
def wait1 (t g : Fin 4) (k : Fin 3) : sProp 𝕄 :=
  iprop(atPos ER (dCell t g k c) 1 ∅ 0 ∗ cellPay X t g k c)

/-- A slot's copy credits what any copy does. -/
theorem slot_credit (m : Memref sig .tc .vmem S3x512x128 .bf16) (k : Fin 3) (g : Fin 4) : (slot m k g).view.dmaCredit = N := rfl
/-- So does a segment's rows'. -/
theorem rows_credit (g : Fin 4) : (rows g).view.dmaCredit = N := rfl

/-- The wait for a receipt along the ring. -/
theorem zWait_step (g : Fin 4) (j : Fin 3) (O : CellTallies nD τ sig Unit) (hO : Above 3 O) (Q : PUnit → sProp 𝕄) :
    iprop(st X κ c O ∗ wait0 c 1 g j.rev ∗ ((st X κ c O ∗ wait1 X c 1 g j.rev) -∗ Q ⟨⟩))
      ⊢ wp frame (wpE (defs₀ (F := F)) 𝒱₀ c none) Set.univ (zWait g j) Q := by
  unfold zWait wait0 wait1
  exact wait_step X κ c 1 g j.rev O hO (src := slot szM j g) (dst := slot rzM j.rev g) _ _ _ (semAt_1 g j.rev) (slot_credit rzM j.rev g) Q

/-- The wait until a ring copy has left. -/
theorem zDrain_step (g : Fin 4) (j : Fin 3) (Q : PUnit → sProp 𝕄) :
    iprop(st X κ c 0 ∗ wait0 c 0 g j ∗ ((st X κ c 0 ∗ wait1 X c 0 g j) -∗ Q ⟨⟩))
      ⊢ wp frame (wpE (defs₀ (F := F)) 𝒱₀ c none) Set.univ (zDrain g j) Q := by
  unfold zDrain wait0 wait1
  exact wait_step X κ c 0 g j 0 (Above.zero _) (src := slot rzM j.rev g) (dst := slot szM j g) _ _ _ (semAt_0 g j) (slot_credit szM j g) Q

/-- The wait until a plane copy has left. -/
theorem xyDrain_step (g : Fin 4) (s : Fin 3) (Q : PUnit → sProp 𝕄) :
    iprop(st X κ c 0 ∗ wait0 c 2 g s ∗ ((st X κ c 0 ∗ wait1 X c 2 g s) -∗ Q ⟨⟩))
      ⊢ wp frame (wpE (defs₀ (F := F)) 𝒱₀ c none) Set.univ (xyDrain g s) Q := by
  unfold xyDrain wait0 wait1
  exact wait_step X κ c 2 g s 0 (Above.zero _) (src := slot rxM s g) (dst := rows g) _ _ _ (semAt_2 g s) (rows_credit g) Q

/-- A sum received across the plane goes into its block of the result. -/
theorem xyRecv_step (g : Fin 4) (s : Fin 3) (Q : PUnit → sProp 𝕄) :
    iprop(st X κ c 0 ∗ (wait0 c 3 g s ∗ ∃ f, oPts c g (qOf (xyPeer s c)) f)
        ∗ ((st X κ c 0 ∗ (wait1 X c 3 g s ∗ oPts c g (qOf (xyPeer s c)) (oF X c))) -∗ Q ⟨⟩))
      ⊢ wp frame (wpE (defs₀ (F := F)) 𝒱₀ c none) Set.univ (xyRecv c g s) Q := by
  unfold xyRecv
  rw [wp_bind]
  iintro ⟨Hst, ⟨Hw, ⟨%f, Ho⟩⟩, Hk⟩
  unfold wait0
  iapply (wait_step X κ c 3 g s 0 (Above.zero _) (src := rows g) (dst := slot rxM s g) _ _ _ (semAt_3 g s) (slot_credit rxM s g))
  isplitl [Hst]; · iexact Hst
  isplitl [Hw]; · iexact Hw
  iintro ⟨Hst, ⟨Hat, Hrx⟩⟩
  ihave Hrx := (Entails.of_eq (pay_3 X c g s)) $$ Hrx
  unfold oPts rxPts
  rw [← access_set cc0_scratch3 (slotR s g), ← recR_set]
  simp only [Prog.lift, Prog.bind_op, Prog.bind_ret]
  iapply (wp_load_rect 𝒱₀ (c : Thread nD τ) none Set.univ (m := rxM) (r := slotR s g) (S := (rxM.access (slotR s g)).set) (f := rxF X c) (Finset.Subset.refl _)) $$ Hrx
  iintro Hrx
  iapply (wp_load_rect 𝒱₀ (c : Thread nD τ) none Set.univ (m := oM) (r := recR c g s) (S := (oM.access (recR c g s)).set) (f := f) (Finset.Subset.refl _)) $$ Ho
  iintro Ho
  iapply (store_step c (m := oM) (r := recR c g s) (oF X c) (fun x => oF_recR X c g s x)) $$ Ho
  iintro Ho
  rw [wp_ret]
  imodintro
  iapply Hk
  isplitl [Hst]; · iexact Hst
  isplitr [Ho]
  · unfold wait1
    isplitl [Hat]; · iexact Hat
    rw [pay_3]
    unfold rxPts
    rw [← access_set cc0_scratch3 (slotR s g)]
    iexact Hrx
  iexact Ho

/-! ## The sum of a segment -/

/-- What the sum of a segment takes. -/
def segTake (g : Fin 4) : sProp 𝕄 :=
  iprop((bigSep Finset.univ fun k => wait0 c 1 g k) ∗ (∃ f, sxPts c fullShare g f)
    ∗ (bigSep Finset.univ fun s => xyFly c g s) ∗ ∃ f, oPts c g (qOf c) f)
/-- What it leaves. -/
def segLeave (g : Fin 4) : sProp 𝕄 :=
  iprop((bigSep Finset.univ fun k => wait1 X c 1 g k) ∗ (bigSep Finset.univ fun s => cred (tallyAt (dCell 2 g s c) () N))
    ∗ oPts c g (qOf c) (oF X c))

/-- The sum's rows, lent in thirds. -/
theorem sx_thirds (g : Fin 4) (f : S512x128.Idx → Elt F .bf16) :
    sxPts c fullShare g f ⊣⊢ bigSep Finset.univ fun s => sxPts c (shares3 fullShare s) g f := by
  have h := three (F := F) fun s => sxPts c (shares3 fullShare s) g f
  unfold sxPts at h ⊢
  constructor
  · exact (pointsTo_thirds _ _).1.trans h.2
  · exact h.1.trans (pointsTo_thirds _ _).2

/-- A segment: the receipts, the sum, its copies, its store into the result. -/
theorem seg_step (g : Fin 4) (l : List (Fin 4)) (Q : PUnit → sProp 𝕄) :
    iprop((xPts c (X c) ∗ st X κ c (owX c (g :: l))) ∗ segTake c g
        ∗ (((xPts c (X c) ∗ st X κ c (owX c l)) ∗ segLeave X c g) -∗ Q ⟨⟩))
      ⊢ wp frame (wpE (defs₀ (F := F)) 𝒱₀ c none) Set.univ (seg c g) Q := by
  unfold seg segTake segLeave
  iintro ⟨⟨Hx, Hst⟩, ⟨Hw, ⟨%f, Hsx⟩, Hfly, ⟨%fo, Ho⟩⟩, Hk⟩
  iapply (wp_each c (zWait g) (fun _ => st X κ c (owX c (g :: l))) (fun j => wait0 c 1 g (Fin.rev j)) (fun j => wait1 X c 1 g (Fin.rev j))
    (fun j _ Q => zWait_step X κ c g j _ ((above_owX c _).mono (by decide)) Q))
  isplitl [Hst]; · iexact Hst
  isplitl [Hw]; · iapply (Entails.of_eq (three_rev fun k => wait0 c 1 g k)); iexact Hw
  iintro ⟨Hst, Hw⟩
  ihave Hw := (Entails.of_eq (three_rev fun k => wait1 X c 1 g k).symm) $$ Hw
  ihave Hw := (three _).1 $$ Hw
  unfold wait1
  icases Hw with ⟨⟨Hat0, Hr0⟩, ⟨Hat1, Hr1⟩, Hat2, Hr2⟩
  ihave Hr0 := (Entails.of_eq (pay_1 X c g 0)) $$ Hr0
  ihave Hr1 := (Entails.of_eq (pay_1 X c g 1)) $$ Hr1
  ihave Hr2 := (Entails.of_eq (pay_1 X c g 2)) $$ Hr2
  unfold oPts xPts
  rw [← sumR_set]
  have hz : ∀ k, rzPts c k g (rzF X c) ⊣⊢ (((rzM.access (slotR k g)).loc (c : Thread nD τ) ↦[(rzM.access (slotR k g)).set]{fullShare} rzF X c : sProp 𝕄)) :=
    fun k => by unfold rzPts; rw [← access_set cc0_scratch1 (slotR k g)]
  have hs : ∀ f, sxPts c fullShare g f ⊣⊢ (((sxM.access (rowsR g)).loc (c : Thread nD τ) ↦[(sxM.access (rowsR g)).set]{fullShare} f : sProp 𝕄)) :=
    fun f => by unfold sxPts; rw [← access_set cc0_scratch2 (rowsR g)]
  ihave Hr0 := (hz 0).1 $$ Hr0
  ihave Hr1 := (hz 1).1 $$ Hr1
  ihave Hr2 := (hz 2).1 $$ Hr2
  ihave Hsx := (hs f).1 $$ Hsx
  simp only [Prog.lift, Prog.bind_op, Prog.bind_ret]
  iapply (wp_load_rect 𝒱₀ (c : Thread nD τ) none Set.univ (m := rzM) (r := slotR 0 g) (S := (rzM.access (slotR 0 g)).set) (f := rzF X c) (Finset.Subset.refl _)) $$ Hr0
  iintro Hr0
  iapply (wp_load_rect 𝒱₀ (c : Thread nD τ) none Set.univ (m := rzM) (r := slotR 1 g) (S := (rzM.access (slotR 1 g)).set) (f := rzF X c) (Finset.Subset.refl _)) $$ Hr1
  iintro Hr1
  iapply (wp_load_rect 𝒱₀ (c : Thread nD τ) none Set.univ (m := rzM) (r := slotR 2 g) (S := (rzM.access (slotR 2 g)).set) (f := rzF X c) (Finset.Subset.refl _)) $$ Hr2
  iintro Hr2
  iapply (wp_load_rect 𝒱₀ (c : Thread nD τ) none Set.univ (m := xM) (r := ownR c g) (S := Finset.univ) (f := X c) (Finset.subset_univ _)) $$ Hx
  iintro Hx
  iapply (wp_load_rect 𝒱₀ (c : Thread nD τ) none Set.univ (m := sxM) (r := rowsR g) (S := (sxM.access (rowsR g)).set) (f := f) (Finset.Subset.refl _)) $$ Hsx
  iintro Hsx
  iapply (store_step c (m := sxM) (r := rowsR g) (sxF X c) (fun x => sxF_rows X c g x)) $$ Hsx
  iintro Hsx
  ihave Hsx := (hs (sxF X c)).2 $$ Hsx
  ihave Hsx := (sx_thirds c g (sxF X c)).1 $$ Hsx
  ihave Ht := (Entails.of_eq (bigSep_sep' Finset.univ (fun s => sxPts c (shares3 fullShare s) g (sxF X c)) (fun s => xyFly c g s)).symm) $$ [Hsx Hfly]
  · isplitl [Hsx]; · iexact Hsx
    iexact Hfly
  iapply (wp_each c (xySend c g) (fun l' => st X κ c (owing (fX c g) (owX c l) l')) (fun s => xyTake X c g s)
    (fun s => cred (tallyAt (dCell 2 g s c) () N)) (fun s l' Q => xySend_step X κ c g s (owing (fX c g) (owX c l) l') Q))
  isplitl [Hst]; · iexact Hst
  isplitl [Ht]; · iapply (Entails.of_eq (three_list fun s => xyTake X c g s)); iexact Ht
  iintro ⟨Hst, Hc⟩
  iapply (wp_load_rect 𝒱₀ (c : Thread nD τ) none Set.univ (m := oM) (r := sumR c g) (S := (oM.access (sumR c g)).set) (f := fo) (Finset.Subset.refl _)) $$ Ho
  iintro Ho
  iapply (store_step c (m := oM) (r := sumR c g) (oF X c) (fun x => oF_sumR X c g x)) $$ Ho
  iintro Ho
  rw [wp_ret]
  imodintro
  iapply Hk
  isplitl [Hx Hst]
  · isplitl [Hx]; · iexact Hx
    iexact Hst
  isplitr [Hc Ho]
  · iapply (three _).2
    rw [pay_1, pay_1, pay_1]
    isplitl [Hat0 Hr0]
    · isplitl [Hat0]; · iexact Hat0
      iapply (hz 0).2; iexact Hr0
    isplitl [Hat1 Hr1]
    · isplitl [Hat1]; · iexact Hat1
      iapply (hz 1).2; iexact Hr1
    isplitl [Hat2]; · iexact Hat2
    iapply (hz 2).2; iexact Hr2
  isplitl [Hc]
  · iapply (Entails.of_eq (three_list fun s => cred (tallyAt (dCell 2 g s c) () N)).symm); iexact Hc
  iexact Ho

end Cert.KernelIdeal.Talk
-- ==== Proof.Pieces.lean ====
/- Each buffer as the conjunction of its pieces. -/
module

public import proofs.«01_k».proof.Proof.Segment

@[expose] public section

set_option maxRecDepth 16384

noncomputable section

namespace Cert.KernelIdeal.Talk

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Which piece an element is in -/

/-- An element of a slab. -/
theorem mem_slab (k : Fin 3) (i : S3x512x128.Idx) : i ∈ (slabR k).set ↔ (i 0 : Fin 3) = k := by
  have h0 : (i 0).val < 3 := (i 0).isLt
  have h1 : (i 1).val < 512 := (i 1).isLt
  have h2 : (i 2).val < 128 := (i 2).isLt
  rw [Rect.mem_set_unit]
  constructor
  · intro h
    have h := h 0
    refine Fin.ext ?_
    have e1 : k.val ≤ (i 0).val := h.1
    have e2 : (i 0).val < k.val + 1 := h.2
    omega
  · rintro rfl a
    match a with
    | 0 => exact ⟨Nat.le_refl _, Nat.lt_succ_self _⟩
    | 1 => exact ⟨Nat.zero_le _, by show (i 1).val < 0 + 512; omega⟩
    | 2 => exact ⟨Nat.zero_le _, by show (i 2).val < 0 + 128; omega⟩

/-- An element of a slot. -/
theorem mem_slot (k : Fin 3) (g : Fin 4) (i : S3x512x128.Idx) :
    i ∈ (slotR k g).set ↔ (i 0 : Fin 3) = k ∧ segOf (i 1) = g := by
  have h0 : (i 0).val < 3 := (i 0).isLt
  have h1 : (i 1).val < 512 := (i 1).isLt
  have h2 : (i 2).val < 128 := (i 2).isLt
  rw [Rect.mem_set_unit]
  constructor
  · intro h
    have e1 : k.val ≤ (i 0).val := (h 0).1
    have e2 : (i 0).val < k.val + 1 := (h 0).2
    have e3 : 128 * g.val ≤ (i 1).val := (h 1).1
    have e4 : (i 1).val < 128 * g.val + 128 := (h 1).2
    exact ⟨Fin.ext (by omega), Fin.ext (by show (i 1).val / 128 = g.val; omega)⟩
  · rintro ⟨rfl, rfl⟩ a
    match a with
    | 0 => exact ⟨Nat.le_refl _, Nat.lt_succ_self _⟩
    | 1 => exact ⟨by show 128 * ((i 1).val / 128) ≤ (i 1).val; omega, by show (i 1).val < 128 * ((i 1).val / 128) + 128; omega⟩
    | 2 => exact ⟨Nat.zero_le _, by show (i 2).val < 0 + 128; omega⟩

/-- An element of a segment's rows. -/
theorem mem_rows (g : Fin 4) (i : S512x128.Idx) : i ∈ (rowsR g).set ↔ segOf (i 0) = g := by
  have h0 : (i 0).val < 512 := (i 0).isLt
  have h1 : (i 1).val < 128 := (i 1).isLt
  rw [Rect.mem_set_unit]
  constructor
  · intro h
    have e3 : 128 * g.val ≤ (i 0).val := (h 0).1
    have e4 : (i 0).val < 128 * g.val + 128 := (h 0).2
    exact Fin.ext (by show (i 0).val / 128 = g.val; omega)
  · rintro rfl a
    match a with
    | 0 => exact ⟨by show 128 * ((i 0).val / 128) ≤ (i 0).val; omega, by show (i 0).val < 128 * ((i 0).val / 128) + 128; omega⟩
    | 1 => exact ⟨Nat.zero_le _, by show (i 1).val < 0 + 128; omega⟩

/-- An element of a block of the result. -/
theorem mem_block (g q : Fin 4) (i : S512x512.Idx) : i ∈ (blockR g q).set ↔ segOf (i 0) = g ∧ segOf (i 1) = q := by
  have h0 : (i 0).val < 512 := (i 0).isLt
  have h1 : (i 1).val < 512 := (i 1).isLt
  rw [Rect.mem_set_unit]
  constructor
  · intro h
    have e1 : 128 * g.val ≤ (i 0).val := (h 0).1
    have e2 : (i 0).val < 128 * g.val + 128 := (h 0).2
    have e3 : 128 * q.val ≤ (i 1).val := (h 1).1
    have e4 : (i 1).val < 128 * q.val + 128 := (h 1).2
    exact ⟨Fin.ext (by show (i 0).val / 128 = g.val; omega), Fin.ext (by show (i 1).val / 128 = q.val; omega)⟩
  · rintro ⟨rfl, rfl⟩ a
    match a with
    | 0 => exact ⟨by show 128 * ((i 0).val / 128) ≤ (i 0).val; omega, by show (i 0).val < 128 * ((i 0).val / 128) + 128; omega⟩
    | 1 => exact ⟨by show 128 * ((i 1).val / 128) ≤ (i 1).val; omega, by show (i 1).val < 128 * ((i 1).val / 128) + 128; omega⟩

/-! ## Splitting -/

/-- Elements sorted by a key are the conjunction of the keys' pieces. -/
theorem split_by {ℓ : Loc nD τ sig} {T : Type} [Fintype T] [DecidableEq T] (S : Finset (Idx ℓ)) (K : T → Finset (Idx ℓ))
    (p : Idx ℓ → T) (h : ∀ t i, i ∈ K t ↔ i ∈ S ∧ p i = t) (q : PosShare TreeShare) (f : Buf (Elt F) ℓ) :
    (ℓ ↦[S]{q} f : sProp 𝕄) = bigSep Finset.univ fun t => ℓ ↦[K t]{q} f := by
  have hd : ∀ t ∈ (Finset.univ : Finset T), ∀ t' ∈ (Finset.univ : Finset T), t ≠ t' → Disjoint (K t) (K t') :=
    fun t _ t' _ hne => Finset.disjoint_left.mpr fun i hi hi' => hne (((h t i).mp hi).2.symm.trans ((h t' i).mp hi').2)
  have hS : S = Finset.univ.biUnion K := by
    ext i
    rw [Finset.mem_biUnion]
    exact ⟨fun hi => ⟨p i, Finset.mem_univ _, (h _ i).mpr ⟨hi, rfl⟩⟩, fun ⟨t, _, ht⟩ => ((h t i).mp ht).1⟩
  rw [hS]
  exact pointsTo_biUnion Finset.univ K hd

variable (c : Dev nD)

/-- The slabs to send, slab by slab. -/
theorem sz_slabs (f : S3x512x128.Idx → Elt F .bf16) :
    (((c : Thread nD τ).loc cc0_scratch0 ↦{fullShare} f : sProp 𝕄)) = bigSep Finset.univ fun k => slabPts c k f := by
  unfold slabPts
  exact split_by (ℓ := (c : Thread nD τ).loc cc0_scratch0) Finset.univ (fun k => (slabR k).set) (fun i => (i 0 : Fin 3))
    (fun k i => (mem_slab k i).trans (by simp only [Finset.mem_univ, true_and]; exact Iff.rfl)) fullShare f
/-- A slab, slot by slot. -/
theorem slab_slots (k : Fin 3) (f : S3x512x128.Idx → Elt F .bf16) :
    slabPts c k f = bigSep Finset.univ fun g => szPts c k g f := by
  unfold slabPts szPts
  exact split_by (ℓ := (c : Thread nD τ).loc cc0_scratch0) (slabR k).set (fun g => (slotR k g).set) (fun i => segOf (i 1 : Fin 512))
    (fun g i => (mem_slot k g i).trans (by rw [mem_slab])) fullShare f
/-- The slabs to send, slot by slot. -/
theorem sz_slots (f : S3x512x128.Idx → Elt F .bf16) :
    (((c : Thread nD τ).loc cc0_scratch0 ↦{fullShare} f : sProp 𝕄))
      = bigSep Finset.univ fun k => bigSep Finset.univ fun g => szPts c k g f :=
  (sz_slabs c f).trans (congrArg (bigSep Finset.univ) (funext fun k => slab_slots c k f))

/-- The slabs received, slot by slot. -/
theorem rz_slots (f : S3x512x128.Idx → Elt F .bf16) :
    (((c : Thread nD τ).loc cc0_scratch1 ↦{fullShare} f : sProp 𝕄))
      = bigSep Finset.univ fun k => bigSep Finset.univ fun g => rzPts c k g f := by
  unfold rzPts
  rw [← bigSep_univ_prod (fun p : Fin 3 × Fin 4 => ((c : Thread nD τ).loc cc0_scratch1 ↦[(slotR p.1 p.2).set]{fullShare} f : sProp 𝕄))]
  exact split_by (ℓ := (c : Thread nD τ).loc cc0_scratch1) Finset.univ (fun p : Fin 3 × Fin 4 => (slotR p.1 p.2).set)
    (fun i => ((i 0 : Fin 3), segOf (i 1 : Fin 512)))
    (fun p i => (mem_slot p.1 p.2 i).trans (by simp only [Finset.mem_univ, true_and, Prod.ext_iff]; exact Iff.rfl)) fullShare f

/-- The sums received, slot by slot. -/
theorem rx_slots (f : S3x512x128.Idx → Elt F .bf16) :
    (((c : Thread nD τ).loc cc0_scratch3 ↦{fullShare} f : sProp 𝕄))
      = bigSep Finset.univ fun k => bigSep Finset.univ fun g => rxPts c k g f := by
  unfold rxPts
  rw [← bigSep_univ_prod (fun p : Fin 3 × Fin 4 => ((c : Thread nD τ).loc cc0_scratch3 ↦[(slotR p.1 p.2).set]{fullShare} f : sProp 𝕄))]
  exact split_by (ℓ := (c : Thread nD τ).loc cc0_scratch3) Finset.univ (fun p : Fin 3 × Fin 4 => (slotR p.1 p.2).set)
    (fun i => ((i 0 : Fin 3), segOf (i 1 : Fin 512)))
    (fun p i => (mem_slot p.1 p.2 i).trans (by simp only [Finset.mem_univ, true_and, Prod.ext_iff]; exact Iff.rfl)) fullShare f

/-- The sum, segment by segment. -/
theorem sx_rows (f : S512x128.Idx → Elt F .bf16) :
    (((c : Thread nD τ).loc cc0_scratch2 ↦{fullShare} f : sProp 𝕄)) = bigSep Finset.univ fun g => sxPts c fullShare g f := by
  unfold sxPts
  exact split_by (ℓ := (c : Thread nD τ).loc cc0_scratch2) Finset.univ (fun g => (rowsR g).set) (fun i => segOf (i 0 : Fin 512))
    (fun g i => (mem_rows g i).trans (by simp only [Finset.mem_univ, true_and])) fullShare f

/-- The device's own quarter and its three peers' are all four. -/
theorem quarters (Φ : Fin 4 → sProp 𝕄) :
    bigSep Finset.univ Φ = iprop(Φ (qOf c) ∗ bigSep Finset.univ fun s => Φ (qOf (xyPeer s c))) := by
  have hinj : Function.Injective fun s : Fin 3 => qOf (xyPeer s c) := by revert c; decide
  have hu : (Finset.univ : Finset (Fin 4)) = insert (qOf c) (Finset.univ.map ⟨_, hinj⟩) := by revert c; decide
  have hn : qOf c ∉ Finset.univ.map ⟨_, hinj⟩ := by
    rw [Finset.mem_map]
    rintro ⟨s, -, h⟩
    exact qOf_xyPeer_ne s c h
  rw [hu, BI.bigSep_insert hn, bigSep_map]
  rfl

/-- The result, block by block: the device's own, then those of its peers. -/
theorem o_blocks (f : S512x512.Idx → Elt F .f32) :
    (((c : Thread nD τ).loc cc0_stg1_0 ↦{fullShare} f : sProp 𝕄))
      = bigSep Finset.univ fun g => iprop(oPts c g (qOf c) f ∗ bigSep Finset.univ fun s => oPts c g (qOf (xyPeer s c)) f) := by
  refine Eq.trans ?_ (congrArg (bigSep Finset.univ) (funext fun g => quarters c fun q => oPts c g q f))
  unfold oPts
  rw [← bigSep_univ_prod (fun p : Fin 4 × Fin 4 => ((c : Thread nD τ).loc cc0_stg1_0 ↦[(blockR p.1 p.2).set]{fullShare} f : sProp 𝕄))]
  exact split_by (ℓ := (c : Thread nD τ).loc cc0_stg1_0) Finset.univ (fun p : Fin 4 × Fin 4 => (blockR p.1 p.2).set)
    (fun i => (segOf (i 0 : Fin 512), segOf (i 1 : Fin 512)))
    (fun p i => (mem_block p.1 p.2 i).trans (by simp only [Finset.mem_univ, true_and, Prod.ext_iff])) fullShare f

end Cert.KernelIdeal.Talk
-- ==== Proof.Gather.lean ====
/- How the pieces are gathered for the steps, and how what the steps leave is put together again. -/
module

public import proofs.«01_k».proof.Proof.Pieces

@[expose] public section

set_option maxRecDepth 16384

noncomputable section

namespace Cert.KernelIdeal.Talk

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (shares3 pointsTo_thirds)

variable {F : FTy → Type} [FloatOps F]

local notation "𝕄" => MT nD τ sig Unit (Elt F) ℕ UU ℕ

/-! ## Families -/

/-- A family's members, each weakened. -/
theorem mono_univ {I : Type} [Fintype I] {Φ Ψ : I → sProp 𝕄} (h : ∀ i, Φ i ⊢ Ψ i) : bigSep Finset.univ Φ ⊢ bigSep Finset.univ Ψ :=
  bigSep_mono fun i _ => h i

/-- One conjunct for each segment and slot. -/
abbrev all (Φ : Fin 4 × Fin 3 → sProp 𝕄) : sProp 𝕄 := bigSep Finset.univ Φ

/-- Slot by slot, then segment by segment. -/
theorem all_swap (Φ : Fin 4 × Fin 3 → sProp 𝕄) :
    (bigSep Finset.univ fun k : Fin 3 => bigSep Finset.univ fun g : Fin 4 => Φ (g, k)) = all Φ :=
  (BI.bigSep_univ_comm fun (k : Fin 3) (g : Fin 4) => Φ (g, k)).trans (bigSep_univ_prod Φ).symm
/-- Segment by segment, then slot by slot. -/
theorem all_seg (Φ : Fin 4 × Fin 3 → sProp 𝕄) :
    all Φ = bigSep Finset.univ fun g : Fin 4 => bigSep Finset.univ fun k : Fin 3 => Φ (g, k) := bigSep_univ_prod Φ
/-- As a list's. -/
theorem all_list (Φ : Fin 4 × Fin 3 → sProp 𝕄) : all Φ = bigSepL pairs Φ :=
  bigSep_univ_eq_bigSepL pairs (by decide) (by decide) Φ
/-- Two such families are one. -/
theorem all_sep (Φ Ψ : Fin 4 × Fin 3 → sProp 𝕄) : all (fun p => iprop(Φ p ∗ Ψ p)) = iprop(all Φ ∗ all Ψ) :=
  bigSep_sep' Finset.univ Φ Ψ

/-- Four conjuncts as a list's. -/
theorem four_list (Φ : Fin 4 → sProp 𝕄) : bigSep Finset.univ Φ = bigSepL [0, 1, 2, 3] Φ :=
  bigSep_univ_eq_bigSepL [0, 1, 2, 3] (by decide) (by decide) Φ
/-- Four conjuncts, written out. -/
theorem four (Φ : Fin 4 → sProp 𝕄) : bigSep Finset.univ Φ ⊣⊢ iprop(Φ 0 ∗ Φ 1 ∗ Φ 2 ∗ Φ 3) := by
  rw [four_list, bigSepL_cons', bigSepL_cons', bigSepL_cons', bigSepL_cons', show bigSepL [] Φ = (BI.emp : sProp 𝕄) from rfl]
  constructor
  · iintro ⟨H0, H1, H2, H3, -⟩
    isplitl [H0]; · iexact H0
    isplitl [H1]; · iexact H1
    isplitl [H2]; · iexact H2
    iexact H3
  · iintro ⟨H0, H1, H2, H3⟩
    isplitl [H0]; · iexact H0
    isplitl [H1]; · iexact H1
    isplitl [H2]; · iexact H2
    isplitl [H3]; · iexact H3
    iempintro

/-- The four arrays' families. -/
theorem ix_four (Φ : Ix3 → sProp 𝕄) : bigSep Finset.univ Φ
    ⊣⊢ iprop(all (fun p => Φ (0, p)) ∗ all (fun p => Φ (1, p)) ∗ all (fun p => Φ (2, p)) ∗ all (fun p => Φ (3, p))) := by
  rw [bigSep_univ_prod]
  exact four _

/-- Six conjuncts as a list's. -/
theorem six_list (Φ : Fin 6 → sProp 𝕄) : bigSep Finset.univ Φ = bigSepL [0, 1, 2, 3, 4, 5] Φ :=
  bigSep_univ_eq_bigSepL [0, 1, 2, 3, 4, 5] (by decide) (by decide) Φ
/-- Six conjuncts as three and three. -/
theorem six_halves (Φ : Fin 6 → sProp 𝕄) : bigSep Finset.univ Φ
    = iprop((bigSep Finset.univ fun k : Fin 3 => Φ (Fin.castAdd 3 k)) ∗ bigSep Finset.univ fun s : Fin 3 => Φ (Fin.natAdd 3 s)) :=
  (bigSep_univ_equiv (finSumFinEquiv (m := 3) (n := 3)) Φ).trans (bigSep_univ_sum _)

variable (X : Dev nD → In F) (κ : GSem nD τ sig → ℕ) (c : Dev nD)

/-! ## The barrier's gifts -/

theorem barPay_z (k : Fin 3) (p : Dev nD) : barPay (F := F) (Fin.castAdd 3 k) p = zGift k p := by
  match k with | 0 => rfl | 1 => rfl | 2 => rfl
theorem barPay_xy (s : Fin 3) (p : Dev nD) : barPay (F := F) (Fin.natAdd 3 s) p = xyGift s p := by
  match s with | 0 => rfl | 1 => rfl | 2 => rfl
theorem bPeer_z (k : Fin 3) (p : Dev nD) : bPeer (Fin.castAdd 3 k) p = zPeer k p := by
  match k with | 0 => rfl | 1 => rfl | 2 => rfl
theorem bPeer_xy (s : Fin 3) (p : Dev nD) : bPeer (Fin.natAdd 3 s) p = xyPeer s p := by
  match s with | 0 => rfl | 1 => rfl | 2 => rfl

/-- The peer's slot that a ring copy fills. -/
def zSlot (p : Fin 4 × Fin 3) : sProp 𝕄 :=
  iprop((∃ f, rzPts (F := F) (zPeer p.2 c) p.2.rev p.1 f) ∗ reached ER (dCell 1 p.1 p.2.rev (zPeer p.2 c)) 0)
/-- The peer's slot that a plane copy fills. -/
def xySlot (p : Fin 4 × Fin 3) : sProp 𝕄 :=
  iprop((∃ f, rxPts (F := F) (xyPeer p.2 c) p.2 p.1 f) ∗ reached ER (dCell 3 p.1 p.2 (xyPeer p.2 c)) 0)

/-- What the barrier brings. -/
theorem gifts_in : (bigSep Finset.univ fun i => barPay (F := F) i c) = iprop(all (zSlot c) ∗ all (xySlot c)) := by
  rw [six_halves, ← all_swap (zSlot c), ← all_swap (xySlot c)]
  congr 1
  · rw [bigSep_univ_equiv Fin.revPerm]
    refine congrArg (bigSep Finset.univ) (funext fun k => ?_)
    rw [barPay_z]
    unfold zGift zSlot
    simp only [Fin.revPerm_apply, Fin.rev_rev]

/-- The device's own slots, for the device that fills them in the ring. -/
theorem gift_z (k : Fin 3) (f : S3x512x128.Idx → Elt F .bf16) :
    iprop(ctx X κ c ∗ bigSep Finset.univ fun g => rzPts c k g f) ⊢ barPay (Fin.castAdd 3 k) (bPeer (Fin.castAdd 3 k) c) := by
  rw [barPay_z, bPeer_z]
  unfold zGift
  refine bigSep_with_persistent fun g _ => ?_
  rw [zPeer_rev]
  iintro ⟨Hc, H⟩
  isplitl [H]; · iexists f; iexact H
  iapply (ctx_cellR X κ c 1 g k); iexact Hc
/-- The device's own slots, for the device that fills them across the plane. -/
theorem gift_xy (s : Fin 3) (f : S3x512x128.Idx → Elt F .bf16) :
    iprop(ctx X κ c ∗ bigSep Finset.univ fun g => rxPts c s g f) ⊢ barPay (Fin.natAdd 3 s) (bPeer (Fin.natAdd 3 s) c) := by
  rw [barPay_xy, bPeer_xy]
  unfold xyGift
  refine bigSep_with_persistent fun g _ => ?_
  rw [xyPeer_xyPeer]
  iintro ⟨Hc, H⟩
  isplitl [H]; · iexists f; iexact H
  iapply (ctx_cellR X κ c 3 g s); iexact Hc

/-- What the device gives to its six peers' barriers. -/
theorem gifts_out (f f' : S3x512x128.Idx → Elt F .bf16) :
    iprop(ctx X κ c ∗ ((c : Thread nD τ).loc cc0_scratch1 ↦{fullShare} f) ∗ ((c : Thread nD τ).loc cc0_scratch3 ↦{fullShare} f'))
      ⊢ bigSep Finset.univ fun i => barPay (F := F) i (bPeer i c) := by
  rw [six_halves, rz_slots, rx_slots]
  iintro ⟨#Hc, Hz, Hx⟩
  isplitl [Hz]
  · iapply (bigSep_with_persistent fun k _ => gift_z X κ c k f)
    isplitr; · iexact Hc
    iexact Hz
  · iapply (bigSep_with_persistent fun s _ => gift_xy X κ c s f')
    isplitr; · iexact Hc
    iexact Hx

/-! ## The states before and after -/

/-- The tokens a device pays with. -/
def toks : sProp 𝕄 :=
  iprop((bigSep Finset.univ fun i => dutyTok ER (barCell (bPeer i c)) 0 i)
    ∗ all (fun p => iprop(dutyTok ER (dCell 0 p.1 p.2 c) 0 0 ∗ dutyTok ER (dCell 1 p.1 p.2.rev (zPeer p.2 c)) 0 0))
    ∗ all (fun p => iprop(dutyTok ER (dCell 2 p.1 p.2 c) 0 0 ∗ dutyTok ER (dCell 3 p.1 p.2 (xyPeer p.2 c)) 0 0)))
/-- The credits it is given at launch. -/
def creds : sProp 𝕄 :=
  iprop(cred (tallyAt (barCell c) () 6) ∗ all (fun p => cred (tallyAt (dCell 1 p.1 p.2 c) () N))
    ∗ all (fun p => cred (tallyAt (dCell 3 p.1 p.2 c) () N)))
/-- Its positions at its cells. -/
def ats (n : ℕ) : sProp 𝕄 :=
  iprop(atPos ER (barCell c) n ∅ 0 ∗ bigSep Finset.univ fun p : Ix3 => atPos ER (dCell p.1 p.2.1 p.2.2 c) n ∅ 0)
/-- Its four buffers of the kernel's own. -/
def bufsAny : sProp 𝕄 :=
  iprop((∃ f : S3x512x128.Idx → Elt F .bf16, (c : Thread nD τ).loc cc0_scratch0 ↦{fullShare} f)
    ∗ (∃ f : S3x512x128.Idx → Elt F .bf16, (c : Thread nD τ).loc cc0_scratch1 ↦{fullShare} f)
    ∗ (∃ f : S512x128.Idx → Elt F .bf16, (c : Thread nD τ).loc cc0_scratch2 ↦{fullShare} f)
    ∗ (∃ f : S3x512x128.Idx → Elt F .bf16, (c : Thread nD τ).loc cc0_scratch3 ↦{fullShare} f))
/-- The staged result, whole. -/
def outPts (f : S512x512.Idx → Elt F .f32) : sProp 𝕄 := (c : Thread nD τ).loc cc0_stg1_0 ↦{fullShare} f
/-- Its cells' counters at zero. -/
def zeros : sProp 𝕄 :=
  iprop(semVal (barCell c) 0 ∗ bigSep Finset.univ fun p : Ix3 => semVal (dCell p.1 p.2.1 p.2.2 c) 0)

/-- Before the body. -/
def talkPre : sProp 𝕄 :=
  iprop(st X κ c (O₀ c) ∗ ats c 0 ∗ toks c ∗ creds c ∗ xPts c (X c) ∗ bufsAny c ∗ ∃ f, outPts c f)
/-- After it. -/
def talkPost : sProp 𝕄 :=
  iprop(xPts c (X c) ∗ bufsAny c ∗ outPts c (oF X c) ∗ zeros c ∗ ∃ W, owes (c : Thread nD τ) 0 W)

/-! ## What the steps take -/

/-- The ring copies' takings. -/
theorem zTakes : iprop(((c : Thread nD τ).loc cc0_scratch0 ↦{fullShare} szF X c) ∗ all (zSlot c)
      ∗ all (fun p => iprop(dutyTok ER (dCell 0 p.1 p.2 c) 0 0 ∗ dutyTok ER (dCell 1 p.1 p.2.rev (zPeer p.2 c)) 0 0)))
    ⊢ all (zTake X c) := by
  rw [sz_slots, all_swap (fun p => szPts c p.2 p.1 (szF X c)), ← all_sep, ← all_sep]
  exact BI.Entails.refl _

/-- The segments' takings. -/
theorem segTakes (f : S512x128.Idx → Elt F .bf16) (fo : S512x512.Idx → Elt F .f32) :
    iprop(all (fun p => wait0 c 1 p.1 p.2) ∗ ((c : Thread nD τ).loc cc0_scratch2 ↦{fullShare} f)
      ∗ (all (xySlot c) ∗ all (fun p => iprop(dutyTok ER (dCell 2 p.1 p.2 c) 0 0 ∗ dutyTok ER (dCell 3 p.1 p.2 (xyPeer p.2 c)) 0 0)))
      ∗ bigSep Finset.univ fun g => oPts c g (qOf c) fo)
    ⊢ bigSep Finset.univ fun g => segTake (F := F) c g := by
  rw [← all_sep, all_seg, all_seg, sx_rows, ← bigSep_sep', ← bigSep_sep', ← bigSep_sep']
  refine mono_univ fun g => ?_
  unfold segTake xyFly xySlot
  iintro ⟨Hw, Hs, Hx, Ho⟩
  isplitl [Hw]; · iexact Hw
  isplitl [Hs]; · iexists f; iexact Hs
  isplitl [Hx]; · iexact Hx
  iexists fo; iexact Ho

/-- The segments' leavings. -/
theorem segLeaves : (bigSep Finset.univ fun g => segLeave X c g)
    = iprop(all (fun p => wait1 X c 1 p.1 p.2) ∗ all (fun p => cred (tallyAt (dCell 2 p.1 p.2 c) () N))
        ∗ bigSep Finset.univ fun g => oPts c g (qOf c) (oF X c)) := by
  unfold segLeave
  rw [bigSep_sep', bigSep_sep', all_seg, all_seg]

/-- The waits from credits and positions. -/
theorem waits (t : Fin 4) : iprop(all (fun p => cred (tallyAt (dCell t p.1 p.2 c) () N)) ∗ all (fun p => atPos ER (dCell t p.1 p.2 c) 0 ∅ 0))
    ⊢ (all fun p => wait0 c t p.1 p.2 : sProp 𝕄) := by
  rw [← all_sep]
  exact BI.Entails.refl _

/-- The plane receipts' takings. -/
theorem recTakes (fo : S512x512.Idx → Elt F .f32) :
    iprop(all (fun p => wait0 c 3 p.1 p.2) ∗ bigSep Finset.univ fun g => bigSep Finset.univ fun s => oPts c g (qOf (xyPeer s c)) fo)
    ⊢ all fun p => iprop(wait0 c 3 p.1 p.2 ∗ ∃ f, oPts (F := F) c p.1 (qOf (xyPeer p.2 c)) f) := by
  rw [← all_seg (fun p => oPts c p.1 (qOf (xyPeer p.2 c)) fo), ← all_sep]
  refine mono_univ fun p => ?_
  iintro ⟨Hw, Ho⟩
  isplitl [Hw]; · iexact Hw
  iexists fo; iexact Ho

/-! ## What the steps leave -/

/-- The four arrays' waits leave all positions past the round, and the four buffers whole. -/
theorem rejoin : iprop(all (fun p => wait1 X c 0 p.1 p.2) ∗ all (fun p => wait1 X c 1 p.1 p.2)
      ∗ all (fun p => wait1 X c 2 p.1 p.2) ∗ all (fun p => wait1 X c 3 p.1 p.2))
    ⊢ iprop((bigSep Finset.univ fun p : Ix3 => atPos ER (dCell p.1 p.2.1 p.2.2 c) 1 ∅ 0) ∗ bufsAny (F := F) c) := by
  unfold wait1 bufsAny
  rw [all_sep, all_sep, all_sep, all_sep]
  iintro ⟨⟨Ha0, Hp0⟩, ⟨Ha1, Hp1⟩, ⟨Ha2, Hp2⟩, Ha3, Hp3⟩
  isplitl [Ha0 Ha1 Ha2 Ha3]
  · iapply (ix_four fun p : Ix3 => atPos ER (dCell p.1 p.2.1 p.2.2 c) 1 ∅ 0).2
    isplitl [Ha0]; · iexact Ha0
    isplitl [Ha1]; · iexact Ha1
    isplitl [Ha2]; · iexact Ha2
    iexact Ha3
  isplitl [Hp0]
  · iexists (szF X c)
    rw [sz_slots, all_swap (fun p => szPts c p.2 p.1 (szF X c))]
    iexact Hp0
  isplitl [Hp1]
  · iexists (rzF X c)
    rw [rz_slots, all_swap (fun p => rzPts c p.2 p.1 (rzF X c))]
    iexact Hp1
  isplitl [Hp2]
  · iexists (sxF X c)
    rw [sx_rows]
    ihave Hp2 := (Entails.of_eq (all_seg fun p => cellPay X 2 p.1 p.2 c)) $$ Hp2
    have h : (bigSep Finset.univ fun g : Fin 4 => bigSep Finset.univ fun k : Fin 3 => cellPay X 2 g k c)
        ⊢ bigSep Finset.univ fun g => sxPts c fullShare g (sxF X c) := mono_univ fun g => (sx_thirds c g (sxF X c)).2
    iapply h
    iexact Hp2
  · iexists (rxF X c)
    rw [rx_slots, all_swap (fun p => rxPts c p.2 p.1 (rxF X c))]
    iexact Hp3

/-- The blocks of the result make it whole. -/
theorem o_whole : iprop((bigSep Finset.univ fun g => oPts c g (qOf c) (oF X c)) ∗ all fun p => oPts c p.1 (qOf (xyPeer p.2 c)) (oF X c))
    = outPts c (oF X c) := by
  unfold outPts
  rw [o_blocks, bigSep_sep', all_seg]

/-- The cells past their round close, their counters at zero. -/
theorem close_all : iprop(ctx X κ c ∗ ats c 1) ⊢ (|={Set.univ}=> zeros c : sProp 𝕄) := by
  unfold ats zeros
  iintro ⟨#Hc, Hb, Hd⟩
  imod (Rounds.cell_close ER (Rd X) (Set.mem_univ (κ (barCell c))) id (duties_later X (barCell c))) $$ [Hb] with Hb
  · isplitr; · iapply (ctx_bar X κ c c); iexact Hc
    iexact Hb
  imod (Rounds.cells_close ER (Rd X) (Finset.univ : Finset Ix3) (fun p => dCell p.1 p.2.1 p.2.2 c) (fun p => κ (dCell p.1 p.2.1 p.2.2 c))
    (fun _ _ => Set.mem_univ _) (fun _ _ => id) (fun _ => 1) (fun p _ => duties_later X _)) $$ [Hd] with Hd
  · iapply (bigSep_with_persistent (R := ctx X κ c) (Φ := fun p : Ix3 => atPos ER (dCell p.1 p.2.1 p.2.2 c) 1 ∅ 0) fun p _ => by
      iintro ⟨Hc, H⟩
      isplitl [Hc]; · iapply (ctx_cell X κ c p.1 p.2.1 p.2.2 c); iexact Hc
      iexact H)
    isplitr; · iexact Hc
    iexact Hd
  imodintro
  isplitl [Hb] <;> iassumption

end Cert.KernelIdeal.Talk
-- ==== Proof.Body.lean ====
/- The body, run once on any device. -/
module

public import proofs.«01_k».proof.Proof.Gather

@[expose] public section

set_option maxRecDepth 16384

noncomputable section

namespace Cert.KernelIdeal.Talk

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (shares3 pointsTo_thirds)

variable {F : FTy → Type} [FloatOps F]

local notation "𝕄" => MT nD τ sig Unit (Elt F) ℕ UU ℕ

variable (X : Dev nD → In F) (κ : GSem nD τ sig → ℕ) (c : Dev nD)

/-- The waits for what has left, of one segment. -/
theorem drain_step (g : Fin 4) (Q : PUnit → sProp 𝕄) :
    iprop(st X κ c 0 ∗ ((bigSep Finset.univ fun k => wait0 c 0 g k) ∗ bigSep Finset.univ fun k => wait0 c 2 g k)
        ∗ ((st X κ c 0 ∗ ((bigSep Finset.univ fun k => wait1 X c 0 g k) ∗ bigSep Finset.univ fun k => wait1 X c 2 g k)) -∗ Q ⟨⟩))
      ⊢ wp frame (wpE (defs₀ (F := F)) 𝒱₀ c none) Set.univ (each (zDrain g) [0, 1, 2] (each (xyDrain g) [0, 1, 2] (pure ⟨⟩))) Q := by
  iintro ⟨Hst, ⟨Hz, Hx⟩, Hk⟩
  iapply (wp_each c (zDrain g) (fun _ => st X κ c 0) (fun j => wait0 c 0 g j) (fun j => wait1 X c 0 g j)
    (fun j _ Q => zDrain_step X κ c g j Q))
  isplitl [Hst]; · iexact Hst
  isplitl [Hz]; · iapply (Entails.of_eq (three_list fun k => wait0 c 0 g k)); iexact Hz
  iintro ⟨Hst, Hz⟩
  iapply (wp_each c (xyDrain g) (fun _ => st X κ c 0) (fun j => wait0 c 2 g j) (fun j => wait1 X c 2 g j)
    (fun j _ Q => xyDrain_step X κ c g j Q))
  isplitl [Hst]; · iexact Hst
  isplitl [Hx]; · iapply (Entails.of_eq (three_list fun k => wait0 c 2 g k)); iexact Hx
  iintro ⟨Hst, Hx⟩
  rw [show (pure ⟨⟩ : Pg F PUnit) = Prog.ret ⟨⟩ from rfl, wp_ret]
  imodintro
  iapply Hk
  isplitl [Hst]; · iexact Hst
  isplitl [Hz]; · iapply (Entails.of_eq (three_list fun k => wait1 X c 0 g k).symm); iexact Hz
  iapply (Entails.of_eq (three_list fun k => wait1 X c 2 g k).symm); iexact Hx

/-- One ring copy, from among those still to be made. -/
theorem zSend_next (R : CellTallies nD τ sig Unit) (p : Fin 4 × Fin 3) (l : List (Fin 4 × Fin 3)) (Q : PUnit → sProp 𝕄) :
    iprop(st X κ c (owing (fZ c) R (p :: l)) ∗ zTake X c p
        ∗ ((st X κ c (owing (fZ c) R l) ∗ cred (tallyAt (dCell 0 p.1 p.2 c) () N)) -∗ Q ⟨⟩))
      ⊢ wp frame (wpE (defs₀ (F := F)) 𝒱₀ c none) Set.univ (zSend c p.1 p.2) Q :=
  zSend_step X κ c p (owing (fZ c) R l) Q

/-- The ring copies. -/
theorem zSend_loop (R : CellTallies nD τ sig Unit) (k : Pg F PUnit) (Q : PUnit → sProp 𝕄) (l : List (Fin 4 × Fin 3)) :
    iprop(st X κ c (owing (fZ c) R l) ∗ bigSepL l (zTake X c)
        ∗ ((st X κ c R ∗ bigSepL l fun p => cred (tallyAt (dCell 0 p.1 p.2 c) () N)) -∗ wp frame (wpE (defs₀ (F := F)) 𝒱₀ c none) Set.univ k Q))
      ⊢ wp frame (wpE (defs₀ (F := F)) 𝒱₀ c none) Set.univ (each (fun p : Fin 4 × Fin 3 => zSend c p.1 p.2) l k) Q :=
  wp_each (ι := Fin 4 × Fin 3) c (fun p => zSend c p.1 p.2) (fun l => st X κ c (owing (fZ c) R l)) (zTake X c)
    (fun p => cred (tallyAt (dCell 0 p.1 p.2 c) () N)) (zSend_next X κ c R) k Q l

/-- The whole body: from the state before to the state after. -/
theorem talk_run (Q : PUnit → sProp 𝕄) :
    iprop(talkPre X κ c ∗ (talkPost X c -∗ Q ⟨⟩))
      ⊢ wp frame (wpE (defs₀ (F := F)) 𝒱₀ c none) Set.univ (talk c) Q := by
  unfold talkPre ats toks creds bufsAny outPts talk
  iintro ⟨⟨Hst, ⟨Hab, Had⟩, ⟨Htb, Htz, Htx⟩, ⟨Hcb, Hcz, Hcx⟩, Hx, ⟨⟨%fsz, Hsz⟩, ⟨%frz, Hrz⟩, ⟨%fsx, Hsx⟩, ⟨%frx, Hrx⟩⟩, ⟨%fo, Ho⟩⟩, Hk⟩
  ihave Had := (ix_four fun p : Ix3 => atPos ER (dCell p.1 p.2.1 p.2.2 c) 0 ∅ 0).1 $$ Had
  icases Had with ⟨Ha0, Ha1, Ha2, Ha3⟩
  -- the signals
  ihave #Hctx : ctx X κ c $$ [Hst]
  · unfold st; icases Hst with ⟨#H, -⟩; iexact H
  ihave Hg := (gifts_out X κ c frz frx) $$ [Hrz Hrx]
  · isplitr; · iexact Hctx
    isplitl [Hrz]; · iexact Hrz
    iexact Hrx
  ihave Hg := (Entails.of_eq (bigSep_sep' Finset.univ (fun i => dutyTok ER (barCell (bPeer i c)) 0 i) (fun i => barPay i (bPeer i c))).symm) $$ [Htb Hg]
  · isplitl [Htb]; · iexact Htb
    iexact Hg
  iapply (wp_each c (signal c) (fun l => st X κ c (owing (fB c) (owZ c pairs) l))
    (fun i => iprop(dutyTok ER (barCell (bPeer i c)) 0 i ∗ barPay i (bPeer i c))) (fun _ => iprop(emp))
    (fun i l Q => signal_step X κ c i (owing (fB c) (owZ c pairs) l) Q))
  isplitl [Hst]; · iexact Hst
  isplitl [Hg]; · iapply (Entails.of_eq (six_list fun i => iprop(dutyTok ER (barCell (bPeer i c)) 0 i ∗ barPay i (bPeer i c)))); iexact Hg
  iintro ⟨Hst, -⟩
  -- the staging
  ihave Hsz := (Entails.of_eq (sz_slabs c fsz)) $$ Hsz
  ihave Hsz := (mono_univ (Ψ := fun k => iprop(∃ f, slabPts c k f)) fun k => by iintro H; iexists fsz; iexact H) $$ Hsz
  iapply (wp_each c (stage c) (fun _ => xPts c (X c)) (fun j => iprop(∃ f, slabPts c j f)) (fun j => slabPts c j (szF X c))
    (fun j _ Q => stage_step X c j Q))
  isplitl [Hx]; · iexact Hx
  isplitl [Hsz]; · iapply (Entails.of_eq (three_list fun j => iprop(∃ f, slabPts c j f))); iexact Hsz
  iintro ⟨Hx, Hsz⟩
  ihave Hsz := (Entails.of_eq (three_list fun j => slabPts c j (szF X c)).symm) $$ Hsz
  ihave Hsz := (Entails.of_eq (sz_slabs c (szF X c)).symm) $$ Hsz
  -- the barrier
  rw [wp_bind]
  iapply (barrier_step X κ c (owZ c pairs) ((above_owZ c _).mono (by decide)))
  isplitl [Hst]; · iexact Hst
  isplitl [Hcb Hab]
  · isplitl [Hcb]; · iexact Hcb
    iexact Hab
  iintro ⟨Hst, Hab, Hg⟩
  ihave Hg := (Entails.of_eq (gifts_in c)) $$ Hg
  icases Hg with ⟨Hgz, Hgx⟩
  -- the ring copies
  ihave Ht := (zTakes X c) $$ [Hsz Hgz Htz]
  · isplitl [Hsz]; · iexact Hsz
    isplitl [Hgz]; · iexact Hgz
    iexact Htz
  ihave Ht := (Entails.of_eq (all_list (zTake X c))) $$ Ht
  iapply (zSend_loop X κ c (owX c [0, 1, 2, 3]))
  isplitl [Hst]; · iexact Hst
  isplitl [Ht]; · iexact Ht
  iintro ⟨Hst, Hcl⟩
  ihave Hcl := (Entails.of_eq (all_list fun p => cred (tallyAt (dCell 0 p.1 p.2 c) () N)).symm) $$ Hcl
  -- the segments
  ihave Hw1 := (waits c 1) $$ [Hcz Ha1]
  · isplitl [Hcz]; · iexact Hcz
    iexact Ha1
  ihave Ho := (Entails.of_eq (o_blocks c fo)) $$ Ho
  ihave Ho := (Entails.of_eq (bigSep_sep' Finset.univ (fun g => oPts c g (qOf c) fo)
    (fun g => bigSep Finset.univ fun s => oPts c g (qOf (xyPeer s c)) fo))) $$ Ho
  icases Ho with ⟨Hoo, Hor⟩
  ihave Ht := (segTakes c fsx fo) $$ [Hw1 Hsx Hgx Htx Hoo]
  · isplitl [Hw1]; · iexact Hw1
    isplitl [Hsx]; · iexact Hsx
    isplitl [Hgx Htx]
    · isplitl [Hgx]; · iexact Hgx
      iexact Htx
    iexact Hoo
  iapply (wp_each c (seg c) (fun l => iprop(xPts c (X c) ∗ st X κ c (owX c l))) (segTake c) (segLeave X c)
    (fun g l Q => seg_step X κ c g l Q))
  isplitl [Hx Hst]
  · isplitl [Hx]; · iexact Hx
    iexact Hst
  isplitl [Ht]; · iapply (Entails.of_eq (four_list (segTake c))); iexact Ht
  iintro ⟨⟨Hx, Hst⟩, Hl⟩
  ihave Hl := (Entails.of_eq (four_list (segLeave X c)).symm) $$ Hl
  ihave Hl := (Entails.of_eq (segLeaves X c)) $$ Hl
  icases Hl with ⟨Hw1, Hcs, Hoo⟩
  -- the receipts across the plane
  ihave Hw3 := (waits c 3) $$ [Hcx Ha3]
  · isplitl [Hcx]; · iexact Hcx
    iexact Ha3
  ihave Ht := (recTakes c fo) $$ [Hw3 Hor]
  · isplitl [Hw3]; · iexact Hw3
    iexact Hor
  iapply (wp_each (ι := Fin 4 × Fin 3) c (fun p => xyRecv c p.1 p.2) (fun _ => st X κ c 0)
    (fun p => iprop(wait0 c 3 p.1 p.2 ∗ ∃ f, oPts (F := F) c p.1 (qOf (xyPeer p.2 c)) f))
    (fun p => iprop(wait1 X c 3 p.1 p.2 ∗ oPts c p.1 (qOf (xyPeer p.2 c)) (oF X c)))
    (fun p _ Q => xyRecv_step X κ c p.1 p.2 Q))
  isplitl [Hst]; · iexact Hst
  isplitl [Ht]
  · iapply (Entails.of_eq (all_list fun p => iprop(wait0 c 3 p.1 p.2 ∗ ∃ f, oPts (F := F) c p.1 (qOf (xyPeer p.2 c)) f))); iexact Ht
  iintro ⟨Hst, Hl⟩
  ihave Hl := (Entails.of_eq (all_list fun p => iprop(wait1 X c 3 p.1 p.2 ∗ oPts c p.1 (qOf (xyPeer p.2 c)) (oF X c))).symm) $$ Hl
  ihave Hl := (Entails.of_eq (all_sep (fun p => wait1 X c 3 p.1 p.2) (fun p => oPts c p.1 (qOf (xyPeer p.2 c)) (oF X c)))) $$ Hl
  icases Hl with ⟨Hw3, Hor⟩
  ihave Ho := (Entails.of_eq (o_whole X c)) $$ [Hoo Hor]
  · isplitl [Hoo]; · iexact Hoo
    iexact Hor
  -- the waits for what has left
  ihave Hw0 := (waits c 0) $$ [Hcl Ha0]
  · isplitl [Hcl]; · iexact Hcl
    iexact Ha0
  ihave Hw2 := (waits c 2) $$ [Hcs Ha2]
  · isplitl [Hcs]; · iexact Hcs
    iexact Ha2
  ihave Hw0 := (Entails.of_eq (all_seg fun p => wait0 c 0 p.1 p.2)) $$ Hw0
  ihave Hw2 := (Entails.of_eq (all_seg fun p => wait0 c 2 p.1 p.2)) $$ Hw2
  ihave Ht := (Entails.of_eq (bigSep_sep' Finset.univ (fun g => bigSep Finset.univ fun k => wait0 c 0 g k)
    (fun g => bigSep Finset.univ fun k => wait0 c 2 g k)).symm) $$ [Hw0 Hw2]
  · isplitl [Hw0]; · iexact Hw0
    iexact Hw2
  iapply (wp_each c (fun g => each (zDrain g) [0, 1, 2] (each (xyDrain g) [0, 1, 2] (pure ⟨⟩))) (fun _ => st X κ c 0)
    (fun g => iprop((bigSep Finset.univ fun k => wait0 c 0 g k) ∗ bigSep Finset.univ fun k => wait0 c 2 g k))
    (fun g => iprop((bigSep Finset.univ fun k => wait1 X c 0 g k) ∗ bigSep Finset.univ fun k => wait1 X c 2 g k))
    (fun g _ Q => drain_step X κ c g Q))
  isplitl [Hst]; · iexact Hst
  isplitl [Ht]
  · iapply (Entails.of_eq (four_list fun g => iprop((bigSep Finset.univ fun k => wait0 c 0 g k) ∗ bigSep Finset.univ fun k => wait0 c 2 g k))); iexact Ht
  iintro ⟨Hst, Hl⟩
  ihave Hl := (Entails.of_eq (four_list fun g => iprop((bigSep Finset.univ fun k => wait1 X c 0 g k) ∗ bigSep Finset.univ fun k => wait1 X c 2 g k)).symm) $$ Hl
  ihave Hl := (Entails.of_eq (bigSep_sep' Finset.univ (fun g => bigSep Finset.univ fun k => wait1 X c 0 g k)
    (fun g => bigSep Finset.univ fun k => wait1 X c 2 g k))) $$ Hl
  icases Hl with ⟨Hw0, Hw2⟩
  ihave Hw0 := (Entails.of_eq (all_seg fun p => wait1 X c 0 p.1 p.2).symm) $$ Hw0
  ihave Hw2 := (Entails.of_eq (all_seg fun p => wait1 X c 2 p.1 p.2).symm) $$ Hw2
  -- the cells closed, the buffers whole
  ihave Hall := (rejoin X c) $$ [Hw0 Hw1 Hw2 Hw3]
  · isplitl [Hw0]; · iexact Hw0
    isplitl [Hw1]; · iexact Hw1
    isplitl [Hw2]; · iexact Hw2
    iexact Hw3
  icases Hall with ⟨Had, Hbufs⟩
  rw [show (pure ⟨⟩ : Pg F PUnit) = Prog.ret ⟨⟩ from rfl, wp_ret]
  imod (close_all X κ c) $$ [Hab Had] with Hz
  · isplitr; · iexact Hctx
    unfold ats
    isplitl [Hab]; · iexact Hab
    iexact Had
  imodintro
  iapply Hk
  unfold talkPost st
  icases Hst with ⟨-, HO⟩
  isplitl [Hx]; · iexact Hx
  isplitl [Hbufs]; · iexact Hbufs
  isplitl [Ho]; · iexact Ho
  isplitl [Hz]; · iexact Hz
  iexact HO

end Cert.KernelIdeal.Talk
-- ==== Proof.Region.lean ====
/- The kernel's region: its proof data, the body's obligation, and the record the launch takes. -/
module

public import proofs.«01_k».proof.Proof.Body
public import proofs.«01_k».proof.Proof.Gen.KernelIdeal.Regions
public import Idealize.ShloMosaic.Lib.Pipeline.RegionTalk
public import Idealize.ShloMosaic.Lib.Pipeline.Value
public import Idealize.ShloMosaic.Lib.Rounds.Family

@[expose] public section

set_option maxRecDepth 16384

noncomputable section

namespace Cert.KernelIdeal.Talk

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

/-! Over what every device holds when the region begins. -/

variable (V : Dev nD → Valuation τ sig (Elt F))

/-- The kernel's input on each device. -/
def inp (c : Dev nD) : In F := V c main_v43

/-- What a device holds when the region ends: the result's array at the sums. -/
def Vo (c : Dev nD) : Valuation τ sig (Elt F) := Function.update (V c) main_v44 (oF (inp V) c)

theorem Vo_out (c : Dev nD) : Vo V c main_v44 = oF (inp V) c := Function.update_self ..
theorem Vo_ne (c : Dev nD) (b : DevRef τ sig) (h : b ≠ Proc.devRef .tc main_v44) : Vo V c b = V c b :=
  Function.update_of_ne h ..

/-! ## The proof data -/

/-- What the body starts with, beside its buffers. -/
def Xk (c : Dev nD) : sProp 𝕄 := iprop(∃ κ, ctx (inp V) κ c ∗ ats c 0 ∗ toks c ∗ creds c)
/-- The body's invariant before its point, -/
def Phi0 (c : Dev nD) : sProp 𝕄 := iprop(Xk V c ∗ bufsAny c ∗ ∃ r, prngReg c r)
/-- and after it. -/
def Phi1 (c : Dev nD) : sProp 𝕄 := iprop(zeros c ∗ bufsAny c ∗ ∃ r, prngReg c r)

/-- The region's proof data. -/
def dat0 (c : Dev nD) : Dat τ (Elt F) Unit ℕ UU ℕ cfg0 c where
  A w := V c (Proc.devRef .tc (Pipeline.arrRef spec0 w))
  after w _ := match w with
    | ⟨0, _⟩ => inp V c
    | ⟨1, _⟩ => oF (inp V) c
  Φ t := if t.val = 0 then Phi0 V c else Phi1 c
  q _ := fullShare
  owed t := if t.val = 0 then O₀ c else 0

/-- The one region's. -/
def pdats : (p : Fin 1) → (c : Dev nD) → Dat τ (Elt F) Unit ℕ UU ℕ (Pipeline.pin (pcfgs (F := F)) adm p) c
  | 0 => dat0 V

theorem owed_first (c : Dev nD) : (dat0 V c).owed t0_0.castSucc = O₀ c := by
  show (if (t0_0.castSucc : Fin (cfg0.N + 1)).val = 0 then O₀ c else 0) = O₀ c; exact if_pos rfl
theorem owed_zero (c : Dev nD) : (dat0 V c).owed 0 = O₀ c := by
  show (if ((0 : Fin (cfg0.N + 1)).val = 0) then O₀ c else 0) = O₀ c; exact if_pos rfl
theorem owed_last (c : Dev nD) : (dat0 V c).owed (Fin.last _) = 0 := by
  show (if (Fin.last cfg0.N).val = 0 then O₀ c else 0) = 0
  rw [Fin.val_last, if_neg (by rw [show cfg0.N = 1 from N_0]; decide)]

/-- A window's block is its whole array. -/
theorem emb_0 (t : Fin cfg0.N) (y : S4x512x128.Idx) : (win0_0.rect t).emb y = y := by
  funext a
  refine Fin.ext ?_
  exact win0_0.rect_emb_val_of_index_zero t a rfl y
theorem emb_1 (t : Fin cfg0.N) (y : S512x512.Idx) : (win0_1.rect t).emb y = y := by
  funext a
  refine Fin.ext ?_
  exact win0_1.rect_emb_val_of_index_zero t a rfl y
theorem read_0 (t : Fin cfg0.N) (f : S4x512x128.Idx → Elt F .bf16) : (win0_0.blk t).view.read (Elt F) f = f :=
  funext fun y => congrArg f (emb_0 t y)
theorem read_1 (t : Fin cfg0.N) (f : S512x512.Idx → Elt F .f32) : (win0_1.blk t).view.read (Elt F) f = f :=
  funext fun y => congrArg f (emb_1 t y)

/-- The input window is staged as it lies in memory. -/
theorem before_0 (c : Dev nD) (d : S4x512x128.Idx → Elt F .bf16) : (dat0 V c).before 0 t0_0 d = inp V c := by
  unfold Pipeline.Dat.before
  rw [if_pos (by decide)]
  exact read_0 (F := F) t0_0 (inp V c)

/-- The input's array is as before at the end. -/
theorem arrAt_0 (c : Dev nD) : (dat0 V c).arrAt 0 cfg0.N = V c main_v43 := (dat0 V c).arrAt_in 0 rfl _

/-- The result's array holds the sums at the end. -/
theorem arrAt_1 (c : Dev nD) : (dat0 V c).arrAt 1 cfg0.N = oF (inp V) c := by
  refine (dat0 V c).arrAt_eq_of_cover 1 (oF (inp V) c) (fun t _ => ?_) fun i => ⟨t0_0, by decide, ?_⟩
  · obtain rfl := fin_N0 t
    exact (read_1 t0_0 (oF (inp V) c)).symm
  · have h := ((cfg0.win 1).blk t0_0).view.emb_mem_set i
    have e : ((cfg0.win 1).blk t0_0).view.emb i = i := emb_1 t0_0 i
    rwa [e] at h

/-! ## The body's obligation -/

theorem owes_intro (c : Dev nD) (t : Fin (cfg0.N + 1)) (O : CellTallies nD τ sig Unit) (h : (dat0 V c).owed t = O) (W : Waits sig Unit) :
    (owes (c : Thread nD τ) O W : sProp 𝕄) ⊢ (dat0 V c).owesAt () t := by
  unfold Dat.owesAt Pipeline.owesWithin Dat.bound
  rw [h]
  iintro H
  iexists W
  isplitr; · ipureintro; exact fun _ _ => Or.inl trivial
  iexact H
theorem owes_elim (c : Dev nD) (t : Fin (cfg0.N + 1)) (O : CellTallies nD τ sig Unit) (h : (dat0 V c).owed t = O) :
    ((dat0 V c).owesAt () t : sProp 𝕄) ⊢ iprop(∃ W, owes (c : Thread nD τ) O W) := by
  unfold Dat.owesAt Pipeline.owesWithin
  rw [h]
  iintro ⟨%W, -, H⟩
  iexists W
  iexact H

/-- A whole buffer owned. -/
theorem owns_whole_buf (c : Dev nD) (b : Ref sig .tc) (f : b.ty.Contents (Elt F)) :
    (owns (c : Thread nD τ) (Memref.whole b) fullShare f : sProp 𝕄) = ((c : Thread nD τ).loc b ↦{fullShare} f) :=
  owns_whole (c : Thread nD τ) b fullShare f

theorem body_ok (c : Dev nD) : BodyObligation (dat0 V c) (defs₀ (F := F)) 𝒱₀ () Set.univ := fun t => by
  obtain rfl := fin_N0 t
  rw [bigSep_W0, bigSep_W0]
  rw [show (dat0 V c).Φ t0_0.castSucc = Phi0 V c from rfl, show (dat0 V c).Φ t0_0.succ = Phi1 c from rfl]
  show iprop(Phi0 V c ∗ (dat0 V c).owesAt () t0_0.castSucc
      ∗ (∃ d, owns (c : Thread nD τ) (Memref.whole cc0_stg0_0) fullShare ((dat0 V c).before (0 : Fin 2) t0_0 d))
      ∗ (∃ d, owns (c : Thread nD τ) (Memref.whole cc0_stg1_0) fullShare ((dat0 V c).before (1 : Fin 2) t0_0 d)))
    ⊢ wp frame (wpE (defs₀ (F := F)) 𝒱₀ c none) Set.univ
      (cc0_body (F := F) xM (Memref.isWhole_whole _) oM (Memref.isWhole_whole _) szM (Memref.isWhole_whole _)
        rzM (Memref.isWhole_whole _) sxM (Memref.isWhole_whole _) rxM (Memref.isWhole_whole _)
        cc0_scratch4 cc0_scratch5 cc0_scratch6 cc0_scratch7)
      (fun _ => iprop(Phi1 c ∗ (dat0 V c).owesAt () t0_0.succ
        ∗ owns (c : Thread nD τ) (Memref.whole cc0_stg0_0) fullShare (inp V c)
        ∗ owns (c : Thread nD τ) (Memref.whole cc0_stg1_0) fullShare (oF (inp V) c)))
  rw [body_eq, show (Prog.lift .deviceId >>= talk (F := F)) = .op .deviceId talk from rfl, wp_deviceId]
  simp only [before_0, owns_whole_buf]
  show _ ⊢ _
  unfold Phi0 Phi1 Xk
  iintro ⟨⟨⟨%κ, #Hctx, Hat, Htk, Hcr⟩, Hb, Hr⟩, HO, ⟨%d0, H0⟩, ⟨%d1, H1⟩⟩
  ihave HO := (owes_elim V c _ (O₀ c) (owed_first V c)) $$ HO
  iapply (talk_run (inp V) κ c)
  isplitr [Hr]
  · unfold talkPre xPts outPts st
    isplitl [HO]
    · isplitr; · iexact Hctx
      iexact HO
    isplitl [Hat]; · iexact Hat
    isplitl [Htk]; · iexact Htk
    isplitl [Hcr]; · iexact Hcr
    isplitl [H0]; · iexact H0
    isplitl [Hb]; · iexact Hb
    iexists _; iexact H1
  unfold talkPost xPts outPts
  iintro ⟨H0, Hb, H1, Hz, ⟨%W, HO⟩⟩
  isplitl [Hz Hb Hr]
  · isplitl [Hz]; · iexact Hz
    isplitl [Hb]; · iexact Hb
    iexact Hr
  isplitl [HO]; · iapply (owes_intro V c t0_0.succ 0 (owed_last V c) W); iexact HO
  isplitl [H0]; · iexact H0
  iexact H1

/-! ## The record -/

/-- What the launch deals a device for the kernel. -/
def Tk (c : Dev nD) : sProp 𝕄 :=
  iprop(∃ κ, records (inp V) κ ∗ (atPos ER (barCell c) 0 ∅ 0 ∗ bigSep Finset.univ fun p : Ix3 => openTok ER (dCell p.1 p.2.1 p.2.2 c)) ∗ toks c ∗ creds c)

/-- At the region's entry the device opens its own cells. -/
theorem open_own (c : Dev nD) : iprop(Tk V c ∗ Pipeline.ownSems0 osem c ∗ levAts L lv) ⊢ (|={Set.univ}=> Xk V c : sProp 𝕄) := by
  unfold Tk Xk Pipeline.ownSems0
  iintro ⟨⟨%κ, #Hrec, ⟨Hab, Hop⟩, Htk, Hcr⟩, Hz, #Hlev⟩
  imod (Rounds.cells_open ER (Rd (inp V)) Finset.univ (fun p : Ix3 => dCell p.1 p.2.1 p.2.2 c)
    (fun p => κ (dCell p.1 p.2.1 p.2.2 c)) (Es := Set.univ) fun _ _ => Set.mem_univ _) $$ [Hop Hz] with Had
  · isplitl [Hop]
    · iapply (bigSep_with_persistent (R := records (inp V) κ) (Φ := fun p : Ix3 => openTok ER (dCell p.1 p.2.1 p.2.2 c)) fun p _ => by
        iintro ⟨#H, Ho⟩
        isplitr; · iapply (records_inv (inp V) κ (cell_mem p.1 p.2.1 p.2.2 c)); iexact H
        iexact Ho)
      isplitr; · iexact Hrec
      iexact Hop
    iexact Hz
  ihave Had := (Entails.of_eq (bigSep_sep' Finset.univ (fun p : Ix3 => atPos ER (dCell p.1 p.2.1 p.2.2 c) 0 ∅ 0)
    (fun p : Ix3 => reached ER (dCell p.1 p.2.1 p.2.2 c) 0))) $$ Had
  icases Had with ⟨Had, #Hre⟩
  imodintro
  iexists κ
  unfold ctx ats
  isplitr
  · isplitr; · iexact Hrec
    isplitr; · iexact Hlev
    iexact Hre
  isplitl [Hab Had]
  · isplitl [Hab]; · iexact Hab
    iexact Had
  isplitl [Htk]; · iexact Htk
  iexact Hcr

theorem osem_facts : Pipeline.OwnSemFacts spec0 osem := ⟨by decide +kernel, osem_inj, by decide +kernel⟩

theorem held_empty (c : Dev nD) (W : Valuation τ sig (Elt F)) : (StableHlo.held (c.tc : Thread nD τ) ∅ W : sProp 𝕄) = BI.emp := by
  unfold StableHlo.held; exact BI.bigSep_empty

/-- The buffers the region does not stage. -/
abbrev restRefs : Finset (DevRef τ sig) := Pipeline.ucRefs τ sig \ Pipeline.arrRefs (τ := τ) spec0

theorem enter (c : Dev nD) : iprop(Pipeline.scopedRest (Pipeline.pin (pcfgs (F := F)) adm 0).spec c ∗ (∃ r, prngReg c r)
    ∗ StableHlo.held (c.tc : Thread nD τ) ∅ (V c) ∗ Xk V c) ⊢ (pdats V 0 c).Φ 0 := by
  rw [show (pdats V 0 c).Φ 0 = Phi0 V c from rfl, show Pipeline.scopedRest (Pipeline.pin (pcfgs (F := F)) adm 0).spec c = _ from scopedRest0_eq c]
  unfold Phi0 bufsAny
  iintro ⟨Hb, Hr, -, HX⟩
  isplitl [HX]; · iexact HX
  isplitl [Hb]; · iexact Hb
  iexact Hr
theorem leave (c : Dev nD) : (pdats V 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) ∅ (Vo V c) ∗ Pipeline.ownSems0 osem c ∗ semVal (barCell c) 0) := by
  rw [show (pdats V 0 c).Φ (Fin.last _) = Phi1 c from rfl, show Pipeline.scopedRest (Pipeline.pin (pcfgs (F := F)) adm 0).spec c = _ from scopedRest0_eq c,
    held_empty]
  unfold Phi1 bufsAny zeros Pipeline.ownSems0
  iintro ⟨⟨Hb, Hz⟩, Hbuf, Hr⟩
  isplitl [Hbuf]; · iexact Hbuf
  isplitl [Hr]; · iexact Hr
  isplitr; · iempintro
  isplitl [Hz]; · iexact Hz
  iexact Hb

theorem cut (c : Dev nD) (t : Fin ((Pipeline.pin (pcfgs (F := F)) adm 0).N + 1)) (g : GSem nD τ sig) (i : Unit)
    (h : 0 < (pdats V 0 c).owed t g i) : i ∈ L g ∧ (0 : ℕ) < lv g i := by
  have e : (pdats V 0 c).owed t = if t.val = 0 then O₀ c else 0 := rfl
  rw [e] at h
  split at h
  · exact above_O₀ c g i h
  · exact absurd h (Nat.lt_irrefl 0)

theorem share_full (c : Dev nD) (w) : (pdats V 0 c).share w = fullShare := (pdats V 0 c).share_full (fun _ => rfl) w

theorem stage_lv : ∀ (w : Fin 2) (s : Fin (spec0 w).nbuf), role (.dma ((spec0 w).sem s)) = .other := by decide

set_option backward.isDefEq.respectTransparency.types false in
/-- The region's record. -/
def reg : Pipeline.RegionSeg (pcfgs (F := F)) adm (pdats V) () defs₀ 𝒱₀ L lv 0 :=
  Pipeline.RegionSeg.ofTalk (pcfgs (F := F)) adm (pdats V) () defs₀ 𝒱₀ L lv 0 osem osem_facts
    ∅ restRefs (Finset.empty_subset _) launch0.toP rfl (fun c => (body_ok V c).loose)
    (fun _ => 0) O₀ (fun c => (owed_zero V c).trans (zero_add _).symm) (owed_last V) (fun _ => rfl) (share_full V)
    V (Vo V) (fun c b hb => Vo_ne V c b fun e => by
      subst e; exact absurd hb (by decide))
    (Tk V) (fun c => semVal (barCell c) 0) (Xk V) (fun c => semVal (barCell c) 0) (open_own V) (enter V) (leave V)
    (fun c => by iintro H; imodintro; iexact H)
    (fun _ => 0)
    ⟨fun c w s => by rw [L_tc]; exact Finset.mem_singleton_self _,
      fun c w s => by show lvOf (role _) ≤ 0; rw [stage_lv w s]; exact Nat.le_refl 0, fun c t g i h => cut V c t g i h⟩
    (fun _ => iprop(emp))
    (fun c w => rfl) (fun c w => by
      fin_cases w
      · exact (arrAt_0 V c).trans (Vo_ne V c _ (by decide)).symm
      · exact (arrAt_1 V c).trans (Vo_out V c).symm)

end Cert.KernelIdeal.Talk
-- ==== Proof.Tokens.lean ====
/- What the launch funds: the tokens of the duties, dealt to the devices that pay them, and the credits of what is owed. -/
module

public import proofs.«01_k».proof.Proof.Region

@[expose] public section

set_option maxRecDepth 16384

noncomputable section

namespace Cert.KernelIdeal.Talk

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The tokens -/

/-- A cell's name among one device's: its barrier signals, then its copies. -/
abbrev Duty : Type := Fin 6 ⊕ Ix3

/-- The duty a name stands for. -/
def dutyAt (c : Dev nD) : Duty → GSem nD τ sig × ℕ × Fin 6
  | .inl i => (barCell c, 0, i)
  | .inr p => (((c : Thread nD τ), osem p), 0, 0)

theorem dutyAt_inj (c d : Dev nD) : ∀ a b : Duty, dutyAt c a = dutyAt d b → a = b
  | .inl i, .inl j, h => congrArg Sum.inl (congrArg (fun x => x.2.2) h)
  | .inl i, .inr p, h => absurd (congrArg (fun x => x.1.2) h).symm (osem_ne_bar p)
  | .inr p, .inl i, h => absurd (congrArg (fun x => x.1.2) h) (osem_ne_bar p)
  | .inr p, .inr q, h => congrArg Sum.inr (osem_inj (congrArg (fun x => x.1.2) h))
theorem dutyAt_dev (c d : Dev nD) : ∀ a b : Duty, dutyAt c a = dutyAt d b → c = d
  | .inl _, .inl _, h => congrArg (fun x => x.1.1.1) h
  | .inl _, .inr _, h => congrArg (fun x => x.1.1.1) h
  | .inr _, .inl _, h => congrArg (fun x => x.1.1.1) h
  | .inr _, .inr _, h => congrArg (fun x => x.1.1.1) h

/-- Every duty of every device. -/
def dutyEmb : Dev nD × Duty ↪ GSem nD τ sig × ℕ × Fin 6 :=
  ⟨fun x => dutyAt x.1 x.2, fun x y h => Prod.ext (dutyAt_dev _ _ _ _ h) (dutyAt_inj _ _ _ _ h)⟩
abbrev allToks : Finset (GSem nD τ sig × ℕ × Fin 6) := Finset.univ.map dutyEmb

/-- A duty's token. -/
abbrev tok (x : GSem nD τ sig) (i : Fin 6) : sProp 𝕄 := dutyTok ER x 0 i

/-- The tokens of one device's cells. -/
def ownToks (c : Dev nD) : sProp 𝕄 :=
  iprop((bigSep Finset.univ fun i => tok (barCell c) i) ∗ all (fun p => tok (dCell 0 p.1 p.2 c) 0)
    ∗ all (fun p => tok (dCell 1 p.1 p.2 c) 0) ∗ all (fun p => tok (dCell 2 p.1 p.2 c) 0) ∗ all (fun p => tok (dCell 3 p.1 p.2 c) 0))

theorem own_toks : bigSep allToks (fun x => (dutyTok ER x.1 x.2.1 x.2.2 : sProp 𝕄)) ⊢ bigSep Finset.univ fun c : Dev nD => ownToks c := by
  rw [bigSep_map, bigSep_univ_prod]
  refine mono_univ fun c => ?_
  rw [bigSep_univ_sum]
  unfold ownToks
  exact sep_mono_right (ix_four (fun p : Ix3 => tok (F := F) ((c : Thread nD τ), osem p) 0)).1

/-- A family over the devices, each member passed round by a permutation of them. -/
theorem around {ι : Type} [Fintype ι] (f : ι → Dev nD → Dev nD) (hf : ∀ i, Function.Bijective (f i)) (Φ : ι → Dev nD → sProp 𝕄) :
    (bigSep Finset.univ fun c => bigSep Finset.univ fun i => Φ i c) = bigSep Finset.univ fun c => bigSep Finset.univ fun i => Φ i (f i c) := by
  rw [bigSep_univ_comm, bigSep_univ_comm (fun (c : Dev nD) (i : ι) => Φ i (f i c))]
  exact bigSep_congr fun i _ => bigSep_univ_equiv (Equiv.ofBijective (f i) (hf i)) (Φ i)

theorem zPeer_bij (j : Fin 3) : Function.Bijective (zPeer j) :=
  Function.bijective_iff_has_inverse.mpr ⟨zPeer j.rev, zPeer_rev j, zPeer_rev' j⟩
theorem xyPeer_bij (s : Fin 3) : Function.Bijective (xyPeer s) := (show Function.Involutive (xyPeer s) from xyPeer_xyPeer s).bijective
theorem bPeer_bij (i : Fin 6) : Function.Bijective (bPeer i) := by
  unfold bPeer
  split <;> first | exact zPeer_bij _ | exact xyPeer_bij _

/-- A family over segments and slots, read at the mirrored slots. -/
theorem all_rev (Φ : Fin 4 × Fin 3 → sProp 𝕄) : all Φ = all fun p => Φ (p.1, p.2.rev) :=
  bigSep_univ_equiv ((Equiv.refl (Fin 4)).prodCongr Fin.revPerm) Φ

/-- The tokens, each with the device that pays the duty. -/
theorem toks_dealt : (bigSep Finset.univ fun c : Dev nD => ownToks (F := F) c) ⊢ bigSep Finset.univ fun c : Dev nD => toks c := by
  have e1 : (bigSep Finset.univ fun c : Dev nD => all fun p => tok (F := F) (dCell 1 p.1 p.2 c) 0)
      = bigSep Finset.univ fun c : Dev nD => all fun p => tok (dCell 1 p.1 p.2.rev (zPeer p.2 c)) 0 := by
    rw [bigSep_congr fun c _ => all_rev fun p => tok (F := F) (dCell 1 p.1 p.2 c) 0]
    exact around (fun p : Fin 4 × Fin 3 => zPeer p.2) (fun p => zPeer_bij p.2) fun p c => tok (dCell 1 p.1 p.2.rev c) 0
  have e3 : (bigSep Finset.univ fun c : Dev nD => all fun p => tok (F := F) (dCell 3 p.1 p.2 c) 0)
      = bigSep Finset.univ fun c : Dev nD => all fun p => tok (dCell 3 p.1 p.2 (xyPeer p.2 c)) 0 :=
    around (fun p : Fin 4 × Fin 3 => xyPeer p.2) (fun p => xyPeer_bij p.2) fun p c => tok (dCell 3 p.1 p.2 c) 0
  have e0 : (bigSep Finset.univ fun c : Dev nD => bigSep Finset.univ fun i => tok (F := F) (barCell c) i)
      = bigSep Finset.univ fun c : Dev nD => bigSep Finset.univ fun i => tok (barCell (bPeer i c)) i :=
    around bPeer bPeer_bij fun i c => tok (barCell c) i
  unfold ownToks toks
  simp only [all_sep, bigSep_sep']
  rw [e0, e1, e3]
  iintro ⟨H0, H1, H2, H3, H4⟩
  isplitl [H0]; · iexact H0
  isplitl [H1 H2]
  · isplitl [H1]; · iexact H1
    iexact H2
  isplitl [H3]; · iexact H3
  iexact H4

/-! ## The credits -/

section Owed

variable (x : GSem nD τ sig)

/-- What is owed a cell, added up. -/
theorem owing_apply {ι : Type} (f : ι → CellTallies nD τ sig Unit) (R : CellTallies nD τ sig Unit) :
    ∀ l, owing f R l x () = R x () + (l.map fun i => f i x ()).sum
  | [] => rfl
  | i :: l => by
      show (owing f R l + f i) x () = _
      rw [Pi.add_apply, Finsupp.add_apply, owing_apply f R l, List.map_cons, List.sum_cons]
      omega

theorem sum_map_zero {ι : Type} (f : ι → ℕ) (l : List ι) (h : ∀ i, f i = 0) : (l.map f).sum = 0 := by
  rw [show f = fun _ => 0 from funext h]; simp

theorem owX_apply (d : Dev nD) : ∀ l, owX d l x () = (l.map fun g => ([0, 1, 2].map fun s => fX d g s x ()).sum).sum
  | [] => rfl
  | g :: l => by
      show owing (fX d g) (owX d l) [0, 1, 2] x () = _
      rw [owing_apply, owX_apply d l, List.map_cons, List.sum_cons]
      exact Nat.add_comm _ _

/-- What device `d` owes a cell. -/
theorem owed_apply (d : Dev nD) : O₀ d x () = (([0, 1, 2, 3].map fun g => ([0, 1, 2].map fun s => fX d g s x ()).sum).sum
    + (pairs.map fun p => fZ d p x ()).sum) + ([0, 1, 2, 3, 4, 5].map fun i => fB d i x ()).sum := by
  unfold O₀
  rw [owing_apply]
  unfold owZ
  rw [owing_apply, owX_apply]

end Owed

theorem bar_eq (c d : Dev nD) : barCell c = barCell d ↔ d = c :=
  ⟨fun h => (congrArg (fun x : GSem nD τ sig => x.1.1) h).symm, fun h => by rw [h]⟩
theorem cell_eq (t t' g g' : Fin 4) (k k' : Fin 3) (c d : Dev nD) :
    dCell t g k c = dCell t' g' k' d ↔ (t = t' ∧ g = g' ∧ k = k') ∧ d = c := by
  constructor
  · intro h
    have e := congrArg (fun x : GSem nD τ sig => role x.2) h
    dsimp only at e
    rw [role_dS, role_dS] at e
    injection e with e1 e2 e3
    exact ⟨⟨e1, e2, e3⟩, (congrArg (fun x : GSem nD τ sig => x.1.1) h).symm⟩
  · rintro ⟨⟨rfl, rfl, rfl⟩, rfl⟩; rfl
theorem bar_ne_cell (t g : Fin 4) (k : Fin 3) (c d : Dev nD) : barCell c ≠ dCell t g k d := fun h => by cases congrArg Prod.snd h

theorem tally_cell (t t' g g' : Fin 4) (k k' : Fin 3) (c d : Dev nD) (n : ℕ) :
    (tallyAt (dCell t' g' k' d) () n : CellTallies nD τ sig Unit) (dCell t g k c) () = if (t = t' ∧ g = g' ∧ k = k') ∧ d = c then n else 0 := by
  rw [tallyAt_apply]
  exact if_congr ⟨fun h => (cell_eq _ _ _ _ _ _ _ _).mp h.1, fun h => ⟨(cell_eq _ _ _ _ _ _ _ _).mpr h, rfl⟩⟩ rfl rfl

section Debts

variable (c d : Dev nD) (g g' : Fin 4) (k : Fin 3)

theorem fB_bar (i : Fin 6) : fB d i (barCell c) () = if bPeer i d = c then 1 else 0 := by
  unfold fB; rw [tallyAt_apply]; simp only [bar_eq, and_true]
theorem fB_cell (t : Fin 4) (i : Fin 6) : fB d i (dCell t g k c) () = 0 := by
  unfold fB; rw [tallyAt_ne_cell (bar_ne_cell _ _ _ _ _).symm]; rfl
theorem fZ_bar (p : Fin 4 × Fin 3) : fZ d p (barCell c) () = 0 := by
  unfold fZ; rw [tallyAt_ne_cell (bar_ne_cell _ _ _ _ _)]; rfl
theorem fX_bar : fX d g k (barCell c) () = 0 := by
  unfold fX; rw [tallyAt_ne_cell (bar_ne_cell _ _ _ _ _)]; rfl
theorem fZ_cell (p : Fin 4 × Fin 3) :
    fZ d p (dCell 1 g k c) () = if p = (g, k.rev) then (if zPeer k.rev d = c then N else 0) else 0 := by
  rw [tally_cell]
  obtain ⟨a, b⟩ := p
  by_cases h : a = g ∧ b = k.rev
  · obtain ⟨rfl, rfl⟩ := h
    rw [if_pos rfl]
    exact if_congr ⟨fun h => h.2, fun h => ⟨⟨rfl, rfl, (Fin.rev_rev k).symm⟩, h⟩⟩ rfl rfl
  · rw [if_neg fun h' => h (Prod.mk.injEq .. ▸ h'), if_neg fun h' => h ⟨h'.1.2.1.symm, by rw [h'.1.2.2]; exact (Fin.rev_rev b).symm⟩]
theorem fZ_cell3 (p : Fin 4 × Fin 3) : fZ d p (dCell 3 g k c) () = 0 := by
  unfold fZ
  rw [tallyAt_ne_cell fun h => absurd ((cell_eq _ _ _ _ _ _ _ _).mp h).1.1 (by decide)]; rfl
theorem fX_cell1 (s : Fin 3) : fX d g' s (dCell 1 g k c) () = 0 := by
  unfold fX
  rw [tallyAt_ne_cell fun h => absurd ((cell_eq _ _ _ _ _ _ _ _).mp h).1.1 (by decide)]; rfl
theorem fX_cell (s : Fin 3) :
    fX d g' s (dCell 3 g k c) () = if g' = g ∧ s = k then (if xyPeer k d = c then N else 0) else 0 := by
  rw [tally_cell]
  by_cases h : g' = g ∧ s = k
  · obtain ⟨rfl, rfl⟩ := h
    rw [if_pos (show g' = g' ∧ s = s from ⟨rfl, rfl⟩)]
    exact if_congr ⟨fun h => h.2, fun h => ⟨⟨rfl, rfl, rfl⟩, h⟩⟩ rfl rfl
  · rw [if_neg h, if_neg fun h' => h ⟨h'.1.2.1.symm, h'.1.2.2.symm⟩]

/-- One member of a list of pairs picked out. -/
theorem pick_pair (a : ℕ) : ∀ q : Fin 4 × Fin 3, (pairs.map fun p => if p = q then a else 0).sum = a := by
  rintro ⟨g, k⟩
  fin_cases g <;> fin_cases k <;> simp [pairs]
theorem pick_two (a : ℕ) (g : Fin 4) (k : Fin 3) :
    (([0, 1, 2, 3] : List (Fin 4)).map fun g' => (([0, 1, 2] : List (Fin 3)).map fun s => if g' = g ∧ s = k then a else 0).sum).sum = a := by
  fin_cases g <;> fin_cases k <;> simp

theorem owed_bar : O₀ d (barCell c) () = ([0, 1, 2, 3, 4, 5].map fun i : Fin 6 => if bPeer i d = c then 1 else 0).sum := by
  rw [owed_apply]
  rw [sum_map_zero _ _ fun g => sum_map_zero _ _ fun s => fX_bar c d g s, sum_map_zero _ _ (fZ_bar c d), Nat.zero_add,
    List.map_congr_left fun i _ => fB_bar c d i]
theorem owed_z : O₀ d (dCell 1 g k c) () = if d = zPeer k c then N else 0 := by
  rw [owed_apply]
  rw [sum_map_zero _ _ fun g' => sum_map_zero _ _ fun s => fX_cell1 c d g g' k s, sum_map_zero _ _ fun i => fB_cell c d g k 1 i,
    List.map_congr_left fun p _ => fZ_cell c d g k p, pick_pair, Nat.zero_add, Nat.add_zero]
  refine if_congr ⟨fun h => ?_, fun h => ?_⟩ rfl rfl
  · rw [← h, zPeer_rev']
  · rw [h, zPeer_rev]
theorem owed_xy : O₀ d (dCell 3 g k c) () = if d = xyPeer k c then N else 0 := by
  rw [owed_apply]
  rw [sum_map_zero _ _ fun p => fZ_cell3 c d g k p, sum_map_zero _ _ fun i => fB_cell c d g k 3 i,
    List.map_congr_left fun g' _ => congrArg List.sum (List.map_congr_left fun s _ => fX_cell c d g g' k s), pick_two, Nat.add_zero]
  refine if_congr ⟨fun h => ?_, fun h => ?_⟩ rfl rfl
  · rw [← h, xyPeer_xyPeer]
  · rw [h, xyPeer_xyPeer]

/-- Six signals reach every barrier. -/
theorem six_owed : ∀ c : Dev nD, (∑ d : Dev nD, ([0, 1, 2, 3, 4, 5].map fun i : Fin 6 => if bPeer i d = c then 1 else 0).sum) = 6 := by
  decide +kernel

theorem launch_bar :
    tallyOn (barCell c) (launchCredit (Pipeline.owing O₀) 0 (barCell c)) = (tallyAt (barCell c) () 6 : CellTallies nD τ sig Unit) := by
  unfold tallyAt; refine congrArg _ (Finsupp.ext fun u => ?_); cases u
  rw [Pipeline.launchCredit_owing, Finsupp.single_eq_same, Finset.sum_congr rfl fun d _ => owed_bar c d, six_owed]
theorem launch_z :
    tallyOn (dCell 1 g k c) (launchCredit (Pipeline.owing O₀) 0 (dCell 1 g k c)) = (tallyAt (dCell 1 g k c) () N : CellTallies nD τ sig Unit) := by
  unfold tallyAt; refine congrArg _ (Finsupp.ext fun u => ?_); cases u
  rw [Pipeline.launchCredit_owing, Finsupp.single_eq_same, Finset.sum_congr rfl fun d _ => owed_z c d g k,
    Finset.sum_ite_eq' Finset.univ (zPeer k c) fun _ => N, if_pos (Finset.mem_univ _)]
theorem launch_xy :
    tallyOn (dCell 3 g k c) (launchCredit (Pipeline.owing O₀) 0 (dCell 3 g k c)) = (tallyAt (dCell 3 g k c) () N : CellTallies nD τ sig Unit) := by
  unfold tallyAt; refine congrArg _ (Finsupp.ext fun u => ?_); cases u
  rw [Pipeline.launchCredit_owing, Finsupp.single_eq_same, Finset.sum_congr rfl fun d _ => owed_xy c d g k,
    Finset.sum_ite_eq' Finset.univ (xyPeer k c) fun _ => N, if_pos (Finset.mem_univ _)]

/-- A device's launch credit holds what its waits take. -/
theorem creds_in : (Pipeline.launchCred O₀ c : sProp 𝕄) ⊢ creds c := by
  have hs : (Finset.univ : Finset Ix3).map ⟨osem, osem_inj⟩ ⊆ Finset.univ.erase (SemLoc.reg barS) := fun x hx => by
    obtain ⟨p, -, rfl⟩ := Finset.mem_map.mp hx
    exact Finset.mem_erase.mpr ⟨osem_ne_bar p, Finset.mem_univ _⟩
  have hd : bigSep (Finset.univ.erase (SemLoc.reg barS)) (fun sm : SemLoc sig =>
        (cred (tallyOn ((c : Thread nD τ), sm) (launchCredit (Pipeline.owing O₀) 0 ((c : Thread nD τ), sm))) : sProp 𝕄))
      ⊢ bigSep Finset.univ fun p : Ix3 => cred (tallyOn ((c : Thread nD τ), osem p) (launchCredit (Pipeline.owing O₀) 0 ((c : Thread nD τ), osem p))) :=
    (bigSep_subset hs).trans (Entails.of_eq (bigSep_map (s := Finset.univ) ⟨osem, osem_inj⟩ (Φ := fun sm : SemLoc sig =>
        (cred (tallyOn ((c : Thread nD τ), sm) (launchCredit (Pipeline.owing O₀) 0 ((c : Thread nD τ), sm))) : sProp 𝕄))))
  have hf := (ix_four (fun p : Ix3 => (cred (tallyOn ((c : Thread nD τ), osem p) (launchCredit (Pipeline.owing O₀) 0 ((c : Thread nD τ), osem p))) : sProp 𝕄))).1
  have h1 : all (fun p => (cred (tallyOn (dCell 1 p.1 p.2 c) (launchCredit (Pipeline.owing O₀) 0 (dCell 1 p.1 p.2 c))) : sProp 𝕄))
      ⊢ all fun p => cred (tallyAt (dCell 1 p.1 p.2 c) () N) := mono_univ fun p => Entails.of_eq (by rw [launch_z])
  have h3 : all (fun p => (cred (tallyOn (dCell 3 p.1 p.2 c) (launchCredit (Pipeline.owing O₀) 0 (dCell 3 p.1 p.2 c))) : sProp 𝕄))
      ⊢ all fun p => cred (tallyAt (dCell 3 p.1 p.2 c) () N) := mono_univ fun p => Entails.of_eq (by rw [launch_xy])
  unfold Pipeline.launchCred creds
  rw [bigSep_univ_at _ (SemLoc.reg barS), launch_bar]
  iintro ⟨Hb, H⟩
  isplitl [Hb]; · iexact Hb
  ihave H := hd $$ H
  ihave H := hf $$ H
  icases H with ⟨-, H1, -, H3⟩
  isplitl [H1]
  · iapply h1; iexact H1
  iapply h3; iexact H3

end Debts

end Cert.KernelIdeal.Talk
-- ==== Proof.Launch.lean ====
/- The run: the launch funds the kernel's cells, the host operations and the region follow, and what is left is read off. -/
module

public import proofs.«01_k».proof.Proof.Tokens

@[expose] public section

set_option maxRecDepth 16384

noncomputable section

namespace Cert.KernelIdeal.Talk

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ UU ℕ

/-! ## The launch element -/

/-- No barrier cell is a copy's cell. -/
theorem disjoint_cells : Disjoint barCells scCells := by
  rw [Finset.disjoint_left]
  rintro x h h'
  obtain ⟨c, -, rfl⟩ := Finset.mem_map.mp h
  obtain ⟨p, -, e⟩ := Finset.mem_map.mp h'
  exact osem_ne_bar p.2 (congrArg Prod.snd e)

/-- The staging's part and the kernel's part. -/
def u₀ : UU :=
  (initOf (Pipeline.cells (Pipeline.pin (pcfgs (F := F)) adm) cellOf_inj) (Pipeline.launchToks (Pipeline.pin (pcfgs (F := F)) adm) cellOf_inj),
    launchOf barCells scCells allToks)

/-- The kernel's part, as a resource. -/
abbrev kPart : sProp 𝕄 := BI.own (ER (launchOf barCells scCells allToks))

/-- It starts on one device. -/
def G (c : Dev nD) : sProp 𝕄 := if c = 0 then kPart else iprop(emp)
theorem G_all : bigSep Finset.univ (G (F := F)) = kPart := by
  have h0 : G (F := F) 0 = kPart := if_pos rfl
  have h : bigSep (Finset.univ.erase (0 : Dev nD)) (G (F := F)) = bigSep (Finset.univ.erase (0 : Dev nD)) fun _ => (BI.emp : sProp 𝕄) :=
    bigSep_congr fun c hc => if_neg (Finset.ne_of_mem_erase hc)
  rw [bigSep_univ_at _ 0, h0, h, BI.bigSep_emp_const]
  exact BI.equiv_iff.mp sep_emp

variable (m : (ℓ : Loc nD τ sig) → Buf (Elt F) ℓ) (ρ : Dev nD → PrngReg)

/-! ## The thread states -/

/-- A device's buffers when the region begins: after the host operations. -/
abbrev W : Dev nD → Valuation τ sig (Elt F) := fun c => V1 m c

/-- What rides beside the buffers up to the region. -/
def E0 (c : Dev nD) : sProp 𝕄 :=
  iprop(Tk (W m) c ∗ (∃ r, prngReg c r) ∗ ∃ Wd, owes (c : Thread nD τ) (O₀ c) Wd)

/-- The first thread state and the last. -/
abbrev T₀ (c : Dev nD) : sProp 𝕄 := iprop(StableHlo.held (c : Thread nD τ) (Pipeline.ucRefs τ sig) (V0 m c) ∗ E0 m c)
abbrev Tₙ (c : Dev nD) : sProp 𝕄 := iprop(StableHlo.held (c : Thread nD τ) (Pipeline.ucRefs τ sig) (Vo (W m) c) ∗ semVal (barCell c) 0)

/-- The region's arrays are among the buffers held. -/
theorem arr_sub : Pipeline.arrRefs (τ := τ) spec0 ⊆ Pipeline.ucRefs τ sig := Pipeline.arrRefs_sub_ucRefs spec0 (by decide)

theorem held_parts (c : Dev nD) (U : Valuation τ sig (Elt F)) :
    (StableHlo.held (c : Thread nD τ) (Pipeline.ucRefs τ sig) U : sProp 𝕄)
      = iprop(StableHlo.held (c : Thread nD τ) (Pipeline.arrRefs (τ := τ) spec0) U ∗ StableHlo.held (c : Thread nD τ) restRefs U) :=
  StableHlo.held_sub_split (c : Thread nD τ) arr_sub U

theorem reg_pre (c : Dev nD) : iprop(StableHlo.held (c : Thread nD τ) (Pipeline.ucRefs τ sig) (W m c) ∗ E0 m c) ⊢ (reg (W m)).pre c := by
  show _ ⊢ iprop(StableHlo.held (c : Thread nD τ) (Pipeline.arrRefs (τ := τ) spec0) (W m c) ∗ (∃ r, prngReg c r)
    ∗ (StableHlo.held (c : Thread nD τ) restRefs (W m c) ∗ emp) ∗ Tk (W m) c ∗ ∃ Wd, owes (c : Thread nD τ) (0 + O₀ c) Wd)
  rw [held_parts, zero_add]
  unfold E0
  iintro ⟨⟨Ha, Hr⟩, HT, Hp, HO⟩
  isplitl [Ha]; · iexact Ha
  isplitl [Hp]; · iexact Hp
  isplitl [Hr]
  · isplitl [Hr]; · iexact Hr
    iempintro
  isplitl [HT]; · iexact HT
  iexact HO
theorem reg_post (c : Dev nD) : (reg (W m)).post c ⊢ iprop(Tₙ m c ∗ ∃ Wd, owes (c : Thread nD τ) 0 Wd) := by
  show iprop(StableHlo.held (c : Thread nD τ) (Pipeline.arrRefs (τ := τ) spec0) (Vo (W m) c) ∗ (∃ r, prngReg c r)
    ∗ (StableHlo.held (c : Thread nD τ) restRefs (Vo (W m) c) ∗ emp) ∗ semVal (barCell c) 0 ∗ ∃ Wd, owes (c : Thread nD τ) 0 Wd) ⊢ _
  unfold Tₙ
  rw [held_parts]
  iintro ⟨Ha, -, ⟨Hr, -⟩, Hz, HO⟩
  isplitr [HO]
  · isplitl [Ha Hr]
    · isplitl [Ha]; · iexact Ha
      iexact Hr
    iexact Hz
  iexact HO

/-! ## The launch -/

/-- What of a device's launch holdings is not the funded cells'. -/
def bundle (c : Dev nD) : sProp 𝕄 :=
  iprop(StableHlo.held (c : Thread nD τ) (Pipeline.ucRefs τ sig) (V0 m c) ∗ creds c ∗ owes (c : Thread nD τ) (O₀ c) ∅ ∗ ∃ r, prngReg c r)
/-- What is. -/
def funded (c : Dev nD) : sProp 𝕄 :=
  iprop((atPos ER (barCell c) 0 ∅ 0 ∗ bigSep Finset.univ fun p : Ix3 => openTok ER (dCell p.1 p.2.1 p.2.2 c)) ∗ toks c)

theorem T₀_in (κ : GSem nD τ sig → ℕ) (c : Dev nD) : iprop(records (inp (W m)) κ ∗ (funded c ∗ bundle m c)) ⊢ T₀ m c := by
  unfold T₀ E0 Tk funded bundle
  iintro ⟨#HR, ⟨Hp, Ht⟩, Hh, Hc, HO, Hg⟩
  isplitl [Hh]; · iexact Hh
  isplitl [Hp Ht Hc]
  · iexists κ
    isplitr; · iexact HR
    isplitl [Hp]; · iexact Hp
    isplitl [Ht]; · iexact Ht
    iexact Hc
  isplitl [Hg]; · iexact Hg
  iexists ∅; iexact HO

theorem unscoped_sems (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

/-- What the launch deals a device. -/
abbrev dealt (c : Dev nD) : sProp 𝕄 :=
  iprop(unscopedBufs c (fun b => m ((c.tc : Thread nD τ).loc b)) ∗ unscopedSems0 c
    ∗ owes (c.tc : Thread nD τ) (O₀ c) ∅ ∗ Pipeline.launchCred O₀ c ∗ prngReg c (ρ c) ∗ G c)

theorem dealt_in (c : Dev nD) : dealt m ρ c ⊢ iprop(bundle m c ∗ (semVal (barCell c) 0 ∗ G c)) := by
  unfold dealt bundle
  rw [show unscopedBufs c (fun b => m ((c.tc : Thread nD τ).loc b)) = StableHlo.held (c : Thread nD τ) (Pipeline.ucRefs τ sig) (V0 m c) from
    Pipeline.unscopedBufs_held (Ix := Unit) (Name := ℕ) (U := UU) (Lvl := ℕ) c (V0 m c), unscoped_sems]
  iintro ⟨Hh, Hs, HO, Hc, Hp, HG⟩
  isplitl [Hh HO Hc Hp]
  · isplitl [Hh]; · iexact Hh
    isplitl [Hc]; · iapply (creds_in c); iexact Hc
    isplitl [HO]; · iexact HO
    iexists (ρ c); iexact Hp
  isplitl [Hs]; · iexact Hs
  iexact HG

theorem over_bar (Φ : GSem nD τ sig → sProp 𝕄) : bigSep barCells Φ = bigSep Finset.univ fun c => Φ (barCell c) :=
  bigSep_map (s := Finset.univ) barEmb
theorem over_sc (Φ : GSem nD τ sig → sProp 𝕄) :
    bigSep scCells Φ = bigSep Finset.univ fun c : Dev nD => bigSep Finset.univ fun p : Ix3 => Φ (dCell p.1 p.2.1 p.2.2 c) := by
  rw [bigSep_map, bigSep_univ_prod]; rfl

/-- The launch makes every device's first thread state. -/
theorem init : iprop((bigSep Finset.univ fun c : Dev nD => dealt m ρ c) ∗ levAts L lv) ⊢ (|={Set.univ}=> bigSep Finset.univ (T₀ m) : sProp 𝕄) := by
  iintro ⟨H, -⟩
  ihave H := (mono_univ (dealt_in m ρ)) $$ H
  ihave H := (Entails.of_eq (bigSep_sep' Finset.univ _ _)) $$ H
  icases H with ⟨HB, H⟩
  ihave H := (Entails.of_eq (bigSep_sep' Finset.univ _ _)) $$ H
  icases H with ⟨Hv, HG⟩
  imod (Rounds.fund_launch ER (Rd (inp (W m))) disjoint_cells (fun x _ h => h) allToks) $$ [Hv HG] with ⟨%κ, -, #Hinv, #Hr, Hat, Hop, Htok⟩
  · isplitl [Hv]
    · iapply (Entails.of_eq (over_bar (F := F) fun x => semVal x 0).symm); iexact Hv
    · iapply (Entails.of_eq (G_all (F := F))); iexact HG
  imodintro
  iapply (bigSep_with_persistent (R := records (inp (W m)) κ) (Φ := fun c => iprop(funded c ∗ bundle m c)) fun c _ => T₀_in m κ c)
  isplitr
  · unfold records
    isplitr; · iexact Hinv
    iexact Hr
  iapply (Entails.of_eq (bigSep_sep' Finset.univ _ _).symm)
  isplitr [HB]
  · unfold funded
    iapply (Entails.of_eq (bigSep_sep' Finset.univ _ _).symm)
    isplitl [Hat Hop]
    · iapply (Entails.of_eq (bigSep_sep' Finset.univ _ _).symm)
      isplitl [Hat]
      · iapply (Entails.of_eq (over_bar (F := F) fun x => atPos ER x 0 ∅ 0)); iexact Hat
      · iapply (Entails.of_eq (over_sc (F := F) fun x => openTok ER x)); iexact Hop
    · iapply (toks_dealt (F := F))
      iapply (own_toks (F := F)); iexact Htok
  · iexact HB

/-! ## The run -/

/-- The program as its host operations and its region. -/
abbrev items (c : Dev nD) : List (Seg (pcfgs (F := F)) adm (pdats (W m)) () defs₀ 𝒱₀ L lv) :=
  segs m 𝒱₀ L lv (fun _ => E0 m) () (pdats (W m)) (reg (W m)) c

theorem unscoped_eq : ∀ sm : SemLoc sig, sm.isScoped .tc = false → sm = .reg barS := by decide

/-- A buffer held is what memory has. -/
theorem uc_mem (b : Ref sig .tc) (h : b.isScoped = false) : Proc.devRef (τ := τ) .tc b ∈ Pipeline.ucRefs τ sig :=
  Finset.mem_filter.mpr ⟨StableHlo.devRef_mem_tcRefs b, by rw [show (Proc.devRef (τ := τ) .tc b).isScoped = b.isScoped from rfl, h]; decide⟩

set_option backward.isDefEq.respectTransparency.types false in
/-- From any memory with all counters at zero the program ends; every device then has its argument as it was, its result at
    the sums of the kernel's inputs, and every counter is at zero. -/
theorem run_main : θ_run defs (onTc (τ := τ) (main (F := F))) ⟨m, fun _ => 0, ρ⟩
    (fun r => (∀ c : Dev nD, r.2.mem ((c.tc : Thread nD τ).loc main_arg0) = m ((c.tc : Thread nD τ).loc main_arg0)
        ∧ r.2.mem ((c.tc : Thread nD τ).loc main_v44) = oF (inp (W m)) c) ∧ r.2.sem = fun _ => 0) :=
  Pipeline.θ_run_regions_kit_dev_sems (pcfgs (F := F)) adm (pdats (W m)) () cellOf_inj EP defs₀ 𝒱₀ L lv m ρ main (items m)
    (fun c Q => by
      rewrite [main_chain c, Seg.run_eq_chain,
        show (items m c).map Seg.prog = [StableHlo.seq (hostOps0 c), Prog.lift (.customCall (Pipeline.entry 0) ())] from rfl]
      dsimp (config := { failIfUnchanged := false }) only
      exact .rfl)
    (fun c => by simp only [items, segs, Seg.pipes_host, Seg.pipes_region, Seg.pipes_nil]; decide)
    (O₀ := O₀) (hL := L_of_ne) (G := G) (u₀ := u₀)
    (hu₀ := by
      unfold u₀
      iintro Hu
      ihave H := (ownU_pair _ _) $$ Hu
      icases H with ⟨HP, HX⟩
      imodintro
      isplitl [HP]; · iexact HP
      iapply (Entails.of_eq (G_all (F := F)).symm); iexact HX)
    (T₀ := T₀ m) (Tₙ := Tₙ m)
    (hch := fun c => ⟨.rfl, reg_pre m c, reg_post m c⟩)
    (hinit := init m ρ)
    (QY := fun c s => (s.mem ((c.tc : Thread nD τ).loc main_arg0) = m ((c.tc : Thread nD τ).loc main_arg0)
        ∧ s.mem ((c.tc : Thread nD τ).loc main_v44) = oF (inp (W m)) c) ∧ s.sem (barCell c) = 0)
    (hfin := fun c s' => by
      unfold Tₙ StableHlo.held
      iintro ⟨⟨Hh, Hb⟩, HSI⟩
      ihave Hr := (pointsTo_read_all (Pipeline.ucRefs τ sig) (fun b => ((c : Thread nD τ).1, b)) (Vo (W m) c) s') $$ [Hh HSI]
      · isplitl [Hh] <;> iassumption
      icases Hr with ⟨%h, HSI⟩
      icombine HSI Hb gives %hb
      imodintro
      isplitr
      · ipureintro
        refine ⟨⟨(h _ (uc_mem main_arg0 rfl)).trans ((Vo_ne (W m) c _ (by decide)).trans (V1_of m c main_arg0 (by decide))),
          (h _ (uc_mem main_v44 rfl)).trans (Vo_out (W m) c)⟩, by simpa using hb⟩
      iexact HSI)
    (hQ := fun s h hs => ⟨fun c => (h c).1, sem_eq_zero hs fun c sm hsm => by
      obtain rfl := unscoped_eq sm hsm
      exact (h c).2⟩)

end Cert.KernelIdeal.Talk
-- ==== Proof.Host.lean ====
/- What the host operations before the kernel compute: on each device, its columns of every column block of its argument. -/
module

public import proofs.«01_k».proof.Proof.Launch
public import Idealize.ShloMosaic.Lib.StableHlo.RunClose
public import Idealize.ShloMosaic.Lib.DynamicIndex

@[expose] public section

set_option maxRecDepth 16384

noncomputable section

namespace Cert.KernelIdeal.Talk

open Cert.KernelIdeal.Gen
open Idealize.ShloMosaic
open Idealize.ShloMosaic.TcCoe
open Idealize.ShloMosaic.StableHlo
open Idealize.ShloMosaic.ValueIdx

variable {F : FTy → Type} [FloatOps F]

/-- A word at the one index of a scalar. -/
abbrev word (w : BitVec 32) : IVec S_ 32 := constantI S_ 32 w

/-- A device's place in its plane, as a word. -/
def planeW (c : Dev nD) : IVec S_ 32 :=
  addi (muli (word 2#32) (Host.remui (Host.divui (word (Dev.word c)) (word 8#32)) (word 2#32)))
    (Host.remui (Host.divui (word (Dev.word c)) (word 4#32)) (word 2#32))
/-- Where block `b`'s columns of the device start, before the wrap of a negative index, -/
def baseW (b : BitVec 32) (c : Dev nD) : IVec S_ 32 := addi (word b) (muli (planeW c) (word 128#32))
/-- and after it. -/
def startW (b : BitVec 32) (c : Dev nD) : IVec S_ 32 :=
  select (cmpi .slt (baseW b c) (word 0#32)) (addi (baseW b c) (word 2048#32)) (baseW b c)

variable (m : (ℓ : Loc nD τ sig) → Buf (Elt F) ℓ)

/-- The argument on a device. -/
abbrev arg (c : Dev nD) : S1x512x2048.Idx → Elt F .bf16 := m (c, Proc.devRef .tc main_arg0)

/-- One slab: the device's columns of one column block. -/
def slabW (b : BitVec 32) (c : Dev nD) : S1x512x128.Idx → Elt F .bf16 :=
  broadcastInDim S1x512x128 ![1, 2] bcast_S512x128_S1x512x128_1_2
    (shapeCast S512x128 (Host.dynamicSlice S1x512x128 (arg m c)
      (fun k => ((![word 0#32, word 0#32, startW b c] : Fin 3 → IVec S_ 32) k (Shape.Idx.first h_S_)).toInt) sliceFits_S1x512x2048_S1x512x128)
      shapeCasts_S1x512x128_S512x128)

/-- Four slabs, one above the other. -/
def stack (u v w z : S1x512x128.Idx → Elt F .bf16) : S4x512x128.Idx → Elt F .bf16 :=
  concatenate S4x512x128 0 [⟨S1x512x128, u⟩, ⟨S1x512x128, v⟩, ⟨S1x512x128, w⟩, ⟨S1x512x128, z⟩]
    concatenates_S1x512x128_S1x512x128_S1x512x128_S1x512x128_S4x512x128_d0

/-- The last host operation stacks the four slabs. -/
theorem stack_read (G : Valuation τ sig (Elt F)) (hxs hy) :
    (StableHlo.nary (τ := τ) (Val := Elt F) ![main_v39, main_v40, main_v41, main_v42] main_v43 (fun u => concatenate S4x512x128 0 [⟨S1x512x128, u 0⟩, ⟨S1x512x128, u 1⟩, ⟨S1x512x128, u 2⟩, ⟨S1x512x128, u 3⟩]
      concatenates_S1x512x128_S1x512x128_S1x512x128_S1x512x128_S4x512x128_d0) hxs hy).result G (Proc.devRef .tc main_v43)
      = stack (G main_v39) (G main_v40) (G main_v41) (G main_v42) := by
  rw [nary4_result]; rfl

/-- The kernel's input on a device, as the host operations make it. -/
theorem host_result (c : Dev nD) :
    V1 m c main_v43 = stack (slabW m 0#32 c) (slabW m 512#32 c) (slabW m 1024#32 c) (slabW m 1536#32 c) := by
  show StableHlo.after (hostOps0 c) (V0 m c) _ = _
  simp only [after_cons, after_nil]
  refine (stack_read _ _ _).trans ?_
  after_results_simp_entrywise
  rfl

/-- The start word of block `k`'s columns. -/
theorem start_eq : ∀ (k : Fin 4) (c : Dev nD), (startW (BitVec.ofNat 32 (512 * k.val)) c (Shape.Idx.first h_S_)).toInt = 512 * k.val + 128 * (c.val / 4) := by
  decide +kernel

/-- A slab at an entry. -/
theorem slabW_apply (c : Dev nD) (k : Fin 4) (r : Fin 512) (l : Fin 128) :
    slabW m (BitVec.ofNat 32 (512 * k.val)) c (ix3 (0 : Fin 1) r l)
      = arg m c (ix3 (0 : Fin 1) r (⟨512 * k.val + 128 * (c.val / 4) + l.val, by
          have h : c.val < 16 := c.isLt
          omega⟩ : Fin 2048)) := by
  have hc : c.val < 16 := c.isLt
  unfold slabW
  rw [Host.dynamicSlice_eq_extractStridedSlice S1x512x128 (arg m c) _ ![0, 0, 512 * k.val + 128 * (c.val / 4)]
      sliceFits_S1x512x2048_S1x512x128
      ⟨rfl, by intro a; match a with
        | 0 => exact Nat.le_refl 1
        | 1 => exact Nat.le_refl 512
        | 2 => show 512 * k.val + 128 * (c.val / 4) + 128 ≤ 2048; omega⟩
      (by intro a; match a with
        | 0 => rfl
        | 1 => rfl
        | 2 => exact (start_eq k c).trans (by simp)),
    broadcastInDim_apply _ _ _ _ (ix2 r l) (by intro a; match a with | 0 => rfl | 1 => rfl),
    shapeCast_dropUnit_apply ![512, 128] _ _ (ix2 r l)]
  refine congrArg (arg m c) (funext fun a => Fin.ext ?_)
  match a with
  | 0 => rfl
  | 1 => exact Nat.zero_add _
  | 2 => rfl

/-- A stack at an entry. -/
theorem stack_apply (f : Fin 4 → S1x512x128.Idx → Elt F .bf16) (k : Fin 4) (r : Fin 512) (l : Fin 128) :
    stack (f 0) (f 1) (f 2) (f 3) (ix3 k r l) = f k (ix3 (0 : Fin 1) r l) :=
  concatenate_ofFn_unit_apply (t := S4x512x128) (s₁ := S1x512x128) 0 f
    concatenates_S1x512x128_S1x512x128_S1x512x128_S1x512x128_S4x512x128_d0 rfl rfl (ix3 k r l) k rfl (ix3 (0 : Fin 1) r l)
    (by intro b hb; match b with
      | 0 => exact absurd rfl hb
      | 1 => rfl
      | 2 => rfl)

/-- The kernel's input on a device, entry by entry: the device's columns of each column block of its argument. -/
theorem inp_apply (c : Dev nD) (k : Fin 4) (r : Fin 512) (l : Fin 128) :
    inp (W m) c (ix3 k r l)
      = arg m c (ix3 (0 : Fin 1) r (⟨512 * k.val + 128 * (c.val / 4) + l.val, by
          have h : c.val < 16 := c.isLt
          omega⟩ : Fin 2048)) := by
  have h : inp (W m) c = stack (slabW m 0#32 c) (slabW m 512#32 c) (slabW m 1024#32 c) (slabW m 1536#32 c) := host_result m c
  rw [h]
  exact (stack_apply (fun k => slabW m (BitVec.ofNat 32 (512 * k.val)) c) k r l).trans (slabW_apply m c k r l)

end Cert.KernelIdeal.Talk
-- ==== Proof.Sum.lean ====
/- At exact arithmetic the result on each device is, column by column, the sum of the four row blocks. -/
module

public import proofs.«01_k».proof.Proof.Contents
public import Idealize.ShloMosaic.PureOps.Ideal

@[expose] public section

set_option maxRecDepth 16384

noncomputable section

namespace Cert.KernelIdeal.Talk

open Cert.KernelIdeal.Gen
open Idealize.ShloMosaic Idealize.ShloMosaic.ValueIdx

/-- Column `l` of quarter `q` of column block `k`. -/
def colAt (k q : Fin 4) (l : Fin 128) : Fin 2048 := ⟨512 * k.val + 128 * q.val + l.val, by omega⟩
/-- Row `a` of segment `g`. -/
def rowAt (g : Fin 4) (a : Fin 128) : Fin 512 := ⟨128 * g.val + a.val, by omega⟩
/-- A device's place along its ring. -/
def zOf (d : Dev nD) : Fin 4 := ⟨d.val % 4, Nat.mod_lt _ (by decide)⟩

/-- The slab a ring peer sends to `d` is `d`'s column block. -/
theorem ring_block (j : Fin 3) (d : Dev nD) : ((zOf (zPeer j d)).val + (Fin.rev j).val + 1) % 4 = (zOf d).val := by
  revert j d; decide
/-- A ring peer sums the same quarter. -/
theorem qOf_zPeer (j : Fin 3) (d : Dev nD) : qOf (zPeer j d) = qOf d := by revert j d; decide
/-- A plane peer is at the same place of its ring. -/
theorem zOf_xyPeer (s : Fin 3) (d : Dev nD) : zOf (xyPeer s d) = zOf d := by revert s d; decide
/-- Every quarter but a device's own is a plane peer's. -/
theorem quarter_cases (q : Fin 4) (d : Dev nD) : q = qOf d ∨ ∃ s, q = qOf (xyPeer s d) := by revert q d; decide

/-- The four places of a ring, from any of them on. -/
theorem sum_ring (f : Fin 4 → EReal) (d : Dev nD) :
    f (zOf (zPeer 0 d)) + f (zOf (zPeer 1 d)) + f (zOf (zPeer 2 d)) + f (zOf d) = ∑ z, f z := by
  have h : ∀ d : Dev nD, (zOf d = 0 ∧ zOf (zPeer 0 d) = 1 ∧ zOf (zPeer 1 d) = 2 ∧ zOf (zPeer 2 d) = 3)
      ∨ (zOf d = 1 ∧ zOf (zPeer 0 d) = 2 ∧ zOf (zPeer 1 d) = 3 ∧ zOf (zPeer 2 d) = 0)
      ∨ (zOf d = 2 ∧ zOf (zPeer 0 d) = 3 ∧ zOf (zPeer 1 d) = 0 ∧ zOf (zPeer 2 d) = 1)
      ∨ (zOf d = 3 ∧ zOf (zPeer 0 d) = 0 ∧ zOf (zPeer 1 d) = 1 ∧ zOf (zPeer 2 d) = 2) := by decide
  rw [Fin.sum_univ_four]
  obtain ⟨h0, h1, h2, h3⟩ | ⟨h0, h1, h2, h3⟩ | ⟨h0, h1, h2, h3⟩ | ⟨h0, h1, h2, h3⟩ := h d <;> rw [h0, h1, h2, h3] <;> ac_rfl

variable (X : Dev nD → In Ideal) (x : (⟨3, ![4, 512, 2048]⟩ : Shape).Idx → EReal)

/-- Every device's input is its quarter of each column block of its row block of `x`. -/
def Holds : Prop := ∀ d k r l, X d (ix3 k r l) = x (ix3 (zOf d) r (colAt k (qOf d) l))

variable {X x}

/-- A received slab at an entry. -/
theorem rzRd_apply (h : Holds X x) (d : Dev nD) (g : Fin 4) (j : Fin 3) (a b : Fin 128) :
    rzRd X d g j (ix3 (0 : Fin 1) a b) = x (ix3 (zOf (zPeer j d)) (rowAt g a) (colAt (zOf d) (qOf d) b)) := by
  unfold rzRd
  rw [slotR_emb]
  refine (h (zPeer j d) _ (rowAt g a) b).trans ?_
  rw [qOf_zPeer]
  exact congrArg (fun k => x (ix3 (zOf (zPeer j d)) (rowAt g a) (colAt k (qOf d) b))) (Fin.ext (ring_block j d))

/-- A device's own block at an entry. -/
theorem ownF_apply (h : Holds X x) (d : Dev nD) (g : Fin 4) (a b : Fin 128) :
    ownF X d g (ix3 (0 : Fin 1) a b) = x (ix3 (zOf d) (rowAt g a) (colAt (zOf d) (qOf d) b)) := by
  refine Eq.trans (congrArg (X d) (funext fun c => Fin.ext ?_)) (h d (zOf d) (rowAt g a) b)
  rw [Rect.emb_apply]
  refine (congrArg (· + _) (congrFun (ownOff_eq g d) c)).trans ?_
  match c with
  | 0 => rfl
  | 1 => exact congrArg _ (Nat.one_mul _)
  | 2 => show 0 + 1 * b.val = b.val; omega

/-- The sum of a segment at an entry. -/
theorem accF_apply (h : Holds X x) (d : Dev nD) (g : Fin 4) (a b : Fin 128) :
    accF X d g (ix2 a b) = ∑ z : Fin 4, x (ix3 z (rowAt g a) (colAt (zOf d) (qOf d) b)) := by
  refine Eq.trans ?_ (sum_ring (fun z => x (ix3 z (rowAt g a) (colAt (zOf d) (qOf d) b))) d)
  have hs : ∀ v : S1x128x128.Idx → EReal, shapeCast S128x128 v shapeCasts_S1x128x128_S128x128 (ix2 a b) = v (ix3 (0 : Fin 1) a b) :=
    fun v => (shapeCast_dropUnit_apply ![128, 128] v shapeCasts_S1x128x128_S128x128 (ix2 a b)).trans
      (congrArg v (funext fun c => match c with | 0 => rfl | 1 => rfl | 2 => rfl))
  show shapeCast S128x128 (rzRd X d g 0) _ (ix2 a b) + shapeCast S128x128 (rzRd X d g 1) _ (ix2 a b)
    + shapeCast S128x128 (rzRd X d g 2) _ (ix2 a b) + shapeCast S128x128 (ownF X d g) _ (ix2 a b) = _
  refine congrArg₂ _ (congrArg₂ _ (congrArg₂ _ ?_ ?_) ?_) ?_
  · exact (hs _).trans (rzRd_apply h d g 0 a b)
  · exact (hs _).trans (rzRd_apply h d g 1 a b)
  · exact (hs _).trans (rzRd_apply h d g 2 a b)
  · exact (hs _).trans (ownF_apply h d g a b)

/-- A sum is sent and widened unchanged. -/
theorem rec_apply (d : Dev nD) (g : Fin 4) (s : Fin 3) (a b : Fin 128) :
    k0_pay14 (rxRd X d g s) (ix2 a b) = accF X (xyPeer s d) g (ix2 a b) := by
  show shapeCast S128x128 (rxRd X d g s) shapeCasts_S1x128x128_S128x128 (ix2 a b) = _
  rw [shapeCast_dropUnit_apply ![128, 128] (rxRd X d g s) shapeCasts_S1x128x128_S128x128 (ix2 a b)]
  unfold rxRd
  rw [slotR_emb]
  show sumF X (xyPeer s d) (segOf (rowAt g a)) (ix2 (inSeg (rowAt g a)) b) = _
  rw [show segOf (rowAt g a) = g from segOf_mk g a _, show inSeg (rowAt g a) = a from inSeg_mk g a _]
  exact congrFun (shapeCast_self (accF X (xyPeer s d) g : S128x128.Idx → EReal) shapeCasts_S128x128_S128x128) (ix2 a b)

/-- The result on a device: the columns of its place along the ring, summed over the four row blocks. -/
theorem oF_apply (h : Holds X x) (d : Dev nD) (i j : Fin 512) :
    oF X d (ix2 i j) = ∑ z : Fin 4, x (ix3 z i (⟨512 * (zOf d).val + j.val, by omega⟩ : Fin 2048)) := by
  have hr : rowAt (segOf i) (inSeg i) = i := Fin.ext (Nat.div_add_mod i.val 128)
  have hc : colAt (zOf d) (segOf j) (inSeg j) = ⟨512 * (zOf d).val + j.val, by omega⟩ :=
    Fin.ext (by show 512 * (zOf d).val + 128 * (j.val / 128) + j.val % 128 = 512 * (zOf d).val + j.val; omega)
  show outF X d (segOf i) (segOf j) (ix2 (inSeg i) (inSeg j)) = _
  rw [← hc]
  conv_rhs => rw [← hr]
  obtain hq | ⟨s, hq⟩ := quarter_cases (segOf j) d
  · rw [hq, outF_own, accF_apply h]
  · rw [hq, outF_rec, rec_apply, accF_apply h, zOf_xyPeer]

end Cert.KernelIdeal.Talk
-- ==== Proof.Value.lean ====
/- The kernel's result on each device is its block of the reference's result, at exact arithmetic. -/
module

public import proofs.«01_k».proof.Proof.Host
public import proofs.«01_k».proof.Proof.Sum
public import proofs.«01_k».proof.Proof.Gen.ReferenceIdeal.Run
public import Idealize.ShloMosaic.Lib.Layout
public import Idealize.ShloMosaic.Lib.IdealHost
public import Idealize.ShloMosaic.Lib.Pointwise.Reduce

@[expose] public section

set_option maxRecDepth 16384

noncomputable section

namespace Cert.KernelIdeal.Talk

open Cert.KernelIdeal.Gen
open Idealize.ShloMosaic hiding ix2 ix3 eq_ix2
open Idealize.ShloMosaic.TcCoe Idealize.ShloMosaic.ValueIdx

/-- The reference's result of a whole array. -/
def refOut (x : (⟨3, ![4, 512, 2048]⟩ : Shape).Idx → EReal) : (⟨2, ![512, 2048]⟩ : Shape).Idx → EReal :=
  extf (F := Ideal) .f32 (truncf .bf16 (Host.reduceAdd (extf .f32 (x : FVec Ideal _ .bf16) Cert.ReferenceIdeal.Gen.bitsLt_bf16_f32)
    (constant Cert.ReferenceIdeal.S_ .f32 0x00000000#32) Cert.ReferenceIdeal.Gen.reducesTo_S4x512x2048_S512x2048_d0
    Cert.ReferenceIdeal.Gen.h_S_) Cert.ReferenceIdeal.Gen.bitsLt_bf16_f32) Cert.ReferenceIdeal.Gen.bitsLt_bf16_f32

/-- At an entry it is the sum over the four row blocks. -/
theorem refOut_apply (x : (⟨3, ![4, 512, 2048]⟩ : Shape).Idx → EReal) (i : Fin 512) (j : Fin 2048) :
    refOut x (ix2 i j) = ∑ z : Fin 4, x (ix3 z i j) := by
  show Host.reduceAdd (F := Ideal) (φ := .f32) x (constant Cert.ReferenceIdeal.S_ .f32 0x00000000#32)
    Cert.ReferenceIdeal.Gen.reducesTo_S4x512x2048_S512x2048_d0 Cert.ReferenceIdeal.Gen.h_S_ (ix2 i j) = _
  rw [hostReduceAdd_apply, Ideal.hostReduceAdd_r3_a0]
  refine (congrArg (· + _) Ideal.ofBits_zero_f32).trans ((zero_add _).trans ?_)
  rfl

variable (m : (ℓ : Loc nD τ sig) → Buf (Elt Ideal) ℓ) (x : (⟨3, ![4, 512, 2048]⟩ : Shape).Idx → EReal)

/-- The row block a device holds. -/
theorem rowBlock_val (d : Dev nD) : ((Layout.meshBlock [2, 2, 4] (![[2], [], []] : Fin 3 → List Nat) d) 0).val = (zOf d).val := by
  revert d; decide
/-- The column block of the result it holds. -/
theorem colBlock_val (d : Dev nD) : ((Layout.meshBlock [2, 2, 4] (![[], [2]] : Fin 2 → List Nat) d) 1).val = (zOf d).val := by
  revert d; decide

/-- On devices that hold their blocks of `x`, the kernel's inputs are their quarters of it. -/
theorem holds_of_blocks (h : ∀ c : Dev nD, m ((c.tc : Thread nD τ).loc main_arg0)
      = Layout.blockN ⟨3, ![1, 512, 2048]⟩ ⟨3, ![4, 512, 2048]⟩ (Layout.meshBlock [2, 2, 4] ![[2], [], []] c) x) :
    Holds (inp (W m)) x := by
  intro d k r l
  refine (inp_apply m d k r l).trans ((congrFun (h d) _).trans ?_)
  rw [Layout.blockN_apply]
  refine congrArg x (funext fun a => Fin.ext ?_)
  rw [Layout.TilesN.idx_val]
  match a with
  | 0 => exact (congrArg (fun n => n * 1 + 0) (rowBlock_val d)).trans (by show (zOf d).val * 1 + 0 = (zOf d).val; omega)
  | 1 =>
    have e : ((Layout.meshBlock [2, 2, 4] (![[2], [], []] : Fin 3 → List Nat) d) 1).val = 0 := by revert d; decide
    exact (congrArg (fun n => n * 512 + r.val) e).trans (by show 0 * 512 + r.val = r.val; omega)
  | 2 =>
    have e : ((Layout.meshBlock [2, 2, 4] (![[2], [], []] : Fin 3 → List Nat) d) 2).val = 0 := by revert d; decide
    exact (congrArg (fun n => n * 2048 + (512 * k.val + 128 * (d.val / 4) + l.val)) e).trans (by
      show 0 * 2048 + (512 * k.val + 128 * (d.val / 4) + l.val) = 512 * k.val + 128 * (d.val / 4) + l.val; omega)

/-- And the kernel's results are their blocks of the reference's. -/
theorem result_block (h : ∀ c : Dev nD, m ((c.tc : Thread nD τ).loc main_arg0)
      = Layout.blockN ⟨3, ![1, 512, 2048]⟩ ⟨3, ![4, 512, 2048]⟩ (Layout.meshBlock [2, 2, 4] ![[2], [], []] c) x) (d : Dev nD) :
    oF (inp (W m)) d
      = Layout.blockN ⟨2, ![512, 512]⟩ ⟨2, ![512, 2048]⟩ (Layout.meshBlock [2, 2, 4] ![[], [2]] d) (refOut x) := by
  suffices H : ∀ i j : Fin 512, oF (inp (W m)) d (ix2 i j) = Layout.blockN ⟨2, ![512, 512]⟩ ⟨2, ![512, 2048]⟩
      (Layout.meshBlock [2, 2, 4] ![[], [2]] d) (refOut x) (by decide) (ix2 i j) by
    funext p
    rw [eq_ix2 (n0 := 512) (n1 := 512) p]
    exact H (p 0) (p 1)
  intro i j
  refine (oF_apply (holds_of_blocks m x h) d i j).trans ?_
  rw [Layout.blockN_apply]
  refine (refOut_apply x i _).symm.trans (congrArg (refOut x) (funext fun a => Fin.ext ?_))
  rw [Layout.TilesN.idx_val]
  match a with
  | 0 =>
    have e : ((Layout.meshBlock [2, 2, 4] (![[], [2]] : Fin 2 → List Nat) d) 0).val = 0 := by revert d; decide
    exact ((congrArg (fun n => n * 512 + i.val) e).trans (by simp)).symm
  | 1 => exact ((congrArg (fun n => n * 512 + j.val) (colBlock_val d)).trans (by rw [Nat.mul_comm])).symm

end Cert.KernelIdeal.Talk
-- ==== Proof.Same.lean ====
/- The idealised kernel is the kernel's own text: over any float values the two programs are equal. -/
module

public import proofs.«01_k».proof.Defs
public import proofs.«01_k».proof.Proof.Gen.Kernel
public import proofs.«01_k».proof.Proof.Gen.KernelIdeal

@[expose] public section

set_option maxRecDepth 16384

noncomputable section

namespace Cert.Proof

open Idealize.ShloMosaic Idealize.SL.Sem

variable {F : FTy → Type} [FloatOps F]

/-- The kernels' body tables are equal. -/
theorem bodies_eq : @Kernel.defs₀ F _ _ = @KernelIdeal.defs₀ F _ _ := by
  unfold Kernel.defs₀ KernelIdeal.defs₀
  refine congrArg Defs.onTc (funext fun l => funext fun a => ?_)
  match l, a with
  | 0, (t, s) => exact rfl
  | ⟨_ + 1, h⟩, _ => exact absurd h (Nat.not_lt.2 (Nat.le_add_left _ _))

/-- So are the whole body tables, -/
theorem defs_eq : Kernel.defs (F := F) = KernelIdeal.defs (F := F) := congrArg (Pipeline.defs KernelIdeal.pcfgs) bodies_eq

set_option maxHeartbeats 4000000 in
/-- and the programs that call them. -/
theorem main_eq : Kernel.main (F := F) = KernelIdeal.main (F := F) := rfl

end Cert.Proof
-- ==== Proof.lean ====
/- The proof of the certificate's claims. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Value
public import proofs.«01_k».proof.Proof.Same
public import Idealize.ShloMosaic.Lib.Quiescent
public import Idealize.ShloMosaic.Adequacy
public import Idealize.ShloMosaic.Init

@[expose] public section

noncomputable section

namespace Cert.Proof

open Idealize.ShloMosaic Idealize.SL.Sem

/-- Over any float values the kernel runs, leaves its argument unchanged and its semaphores at zero. -/
theorem frame_run {F : FTy → Type} [FloatOps F] (m : (ℓ : Loc KernelIdeal.nD KernelIdeal.τ KernelIdeal.sig) → Buf (Elt F) ℓ)
    (ρ : Dev KernelIdeal.nD → PrngReg) :
    θ_run (KernelIdeal.defs (F := F)) (onTc (τ := KernelIdeal.τ) (KernelIdeal.main (F := F))) ⟨m, fun _ => 0, ρ⟩ (fun r =>
      (∀ c : Dev KernelIdeal.nD, r.2.mem ((c.tc : Thread KernelIdeal.nD KernelIdeal.τ).loc KernelIdeal.main_arg0)
        = m ((c.tc : Thread KernelIdeal.nD KernelIdeal.τ).loc KernelIdeal.main_arg0)) ∧ r.2.sem = fun _ => 0) :=
  (θ_run KernelIdeal.defs _ _).mono (fun _ h => ⟨fun c => (h.1 c).1, h.2⟩) (KernelIdeal.Talk.run_main m ρ)

/-- So does the kernel as it is written. -/
theorem frame_kernel : Cert.quiescent_Kernel := by
  intro m ρ _
  rw [defs_eq, main_eq]
  exact frame_run (F := Bits) m ρ

/-- So does the idealised kernel. -/
theorem frame_kernelIdeal : Cert.quiescent_KernelIdeal := fun m ρ _ => frame_run (F := Ideal) m ρ

/-- So does the reference. -/
theorem frame_referenceIdeal : Cert.quiescent_ReferenceIdeal := fun m ρ _ =>
  (θ_run Cert.ReferenceIdeal.defs _ _).mono (fun r h => ⟨fun c => (h c).2, sem_eq_zero_of_no_sems rfl r.2⟩)
    (Cert.ReferenceIdeal.Value.run (F := Ideal) m ρ)

/-- The idealised kernel's results are the blocks of the reference's. -/
theorem value : Cert.algebraic_KernelIdeal_ReferenceIdeal := fun m ρ m' ρ' _ hm =>
  ⟨Cert.KernelIdeal.Talk.refOut (m' (((0 : Dev ReferenceIdeal.nD).tc : Thread ReferenceIdeal.nD ReferenceIdeal.τ).loc ReferenceIdeal.main_arg0)),
    (θ_run Cert.KernelIdeal.defs _ _).mono
      (fun _ h c => ⟨(h.1 c).2.trans (Cert.KernelIdeal.Talk.result_block m _ hm c), (h.1 c).1⟩)
      (Cert.KernelIdeal.Talk.run_main (F := Ideal) m ρ),
    (θ_run Cert.ReferenceIdeal.defs _ _).mono (fun _ h => h 0) (Cert.ReferenceIdeal.Value.run (F := Ideal) m' ρ')⟩

theorem claim : Cert.Claim := ⟨Cert.Kernel.Gen.facts, Cert.KernelIdeal.Gen.facts, Cert.ReferenceIdeal.Gen.facts,
  frame_kernel, frame_kernelIdeal, frame_referenceIdeal, trivial, value⟩

end Cert.Proof

end
